-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4x4x4x4 : Shape := ⟨5, ![4096, 4, 4, 4, 4]⟩
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S1x8192 : Shape := ⟨2, ![1, 8192]⟩
abbrev S4096x8192 : Shape := ⟨2, ![4096, 8192]⟩
abbrev S1x1 : Shape := ⟨2, ![1, 1]⟩
abbrev S256x256 : Shape := ⟨2, ![256, 256]⟩
abbrev S256x8192 : Shape := ⟨2, ![256, 8192]⟩
abbrev S8x8192 : Shape := ⟨2, ![8, 8192]⟩
abbrev S256 : Shape := ⟨1, ![256]⟩
abbrev S256x1 : Shape := ⟨2, ![256, 1]⟩
abbrev S32x8x8192 : Shape := ⟨3, ![32, 8, 8192]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x4x4x4x4, .f32⟩
  | .hbm, ⟨1, _⟩ => ⟨S8192x256, .f32⟩
  | .hbm, ⟨2, _⟩ => ⟨S4096x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S1x8192, .i32⟩
  | .hbm, ⟨8, _⟩ => ⟨S4096x8192, .f32⟩
  | .hbm, ⟨9, _⟩ => ⟨S4096x256, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S4096x4x4x4x4, .f32⟩
  | .hbm, ⟨14, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S1x8192, .f32⟩
  | .local _ .vmem, ⟨4, _⟩ => ⟨S1x8192, .i32⟩
  | .local _ .vmem, ⟨5, _⟩ => ⟨S256x8192, .f32⟩
  | .local _ .vmem, ⟨6, _⟩ => ⟨S256x8192, .f32⟩
  | .local _ .vmem, ⟨7, _⟩ => ⟨S256x256, .f32⟩
  | .local _ .vmem, ⟨8, _⟩ => ⟨S256x256, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S8x8192, .f32⟩
  | _, _ => ⟨S4096x4x4x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v58 : BitVec 1 := Scalar.cmpi .eq arg0 c15_i32
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x4x4x4x4 : Shape := ⟨5, ![4096, 4, 4, 4, 4]⟩
abbrev S8192x256 : Shape := ⟨2, ![8192, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S256x8192 : Shape := ⟨2, ![256, 8192]⟩
abbrev S4096x2 : Shape := ⟨2, ![4096, 2]⟩

abbrev nBuf : Space → Nat
  | .hbm => 81
  | .vmem => 0
  | .smem => 0
  | _ => 0

abbrev bufTy : (tb : Table) → Fin (tcTables nBuf tb) → BufTy
  | .hbm, ⟨0, _⟩ => ⟨S4096x4x4x4x4, .f32⟩
  | .hbm, ⟨1, _⟩ => ⟨S8192x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S256x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .i32⟩
  | .hbm, ⟨21, _⟩ => ⟨S_, .f32⟩
  | .hbm, ⟨22, _⟩ => ⟨S_, .i32⟩
  | .hbm, ⟨23, _⟩ => ⟨S4096, .f32⟩
  | .hbm, ⟨24, _⟩ => ⟨S4096, .i32⟩
  | .hbm, ⟨25, _⟩ => ⟨S_, .f32⟩
  | .hbm, ⟨26, _⟩ => ⟨S4096x8192, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x1, .i32⟩
  | .hbm, ⟨44, _⟩ => ⟨S4096x2, .i32⟩
  | .hbm, ⟨45, _⟩ => ⟨S_, .f32⟩
  | .hbm, ⟨46, _⟩ => ⟨S4096, .f32⟩
  | .hbm, ⟨47, _⟩ => ⟨S4096x8192, .f32⟩
  | .hbm, ⟨48, _⟩ => ⟨S4096x256, .f32⟩
  | .hbm, ⟨49, _⟩ => ⟨S4096x4x4x4x4, .f32⟩
  | .hbm, ⟨50, _⟩ => ⟨S4096x4x4x4x4, .f32⟩
  | .hbm, ⟨51, _⟩ => ⟨S4096x4x4x4x4, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x4x4x4x4, .f32⟩
  | .hbm, ⟨57, _⟩ => ⟨S4096x4x4x4x4, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x4x4x4x4, .f32⟩
  | .hbm, ⟨66, _⟩ => ⟨S4096x4x4x4x4, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x4x4x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Proof.RefRun.lean ====
/- The reference program's run, read: its host operations as five consecutive lists (the distances; the arg-min; the
   one-hot matrix; the loss and the straight-through value; the perplexity), what each list leaves in the buffers the later
   ones read, and the four results as terms of the two arguments. -/
module

public import proofs.«01_k».proof.Proof.Gen.ReferenceIdeal
public import Idealize.ShloMosaic.Lib.StableHlo.Run

@[expose] public section

set_option maxRecDepth 8192

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- The scatter's index pairs: row numbers beside column numbers. -/
def pairs : (⟨S4096x1, .i32⟩ : BufTy).Contents (Elt F) → (⟨S4096x1, .i32⟩ : BufTy).Contents (Elt F) → (⟨S4096x2, .i32⟩ : BufTy).Contents (Elt F) :=
  (fun a b => concatenate S4096x2 1 [⟨S4096x1, a⟩, ⟨S4096x1, b⟩] concatenates_S4096x1_S4096x1_S4096x2_d1)

abbrev opsA : List (HloOp τ sig (Elt F)) :=
  [ reshape main_arg0 main_v0 (rfl : (.f32 : EltTy) = .f32) shapeCasts_S4096x4x4x4x4_S4096x256,
    binary main_v0 main_v0 main_v1 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v1 main_cst main_v2 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v2 main_v3 (broadcastInDim S4096x1 ![0] bcast_S4096_S4096x1_0 : (⟨S4096, .f32⟩ : BufTy).Contents (Elt F) → (⟨S4096x1, .f32⟩ : BufTy).Contents (Elt F)),
    binary main_arg1 main_arg1 main_v4 (mulf : (⟨S8192x256, .f32⟩ : BufTy).Contents (Elt F) → (⟨S8192x256, .f32⟩ : BufTy).Contents (Elt F) → (⟨S8192x256, .f32⟩ : BufTy).Contents (Elt F)),
    nullary main_cst_0 (constant S_ .f32 0x00000000#32),
    binary main_v4 main_cst_0 main_v5 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v5 main_v6 (broadcastInDim S1x8192 ![1] bcast_S8192_S1x8192_1 : (⟨S8192, .f32⟩ : BufTy).Contents (Elt F) → (⟨S1x8192, .f32⟩ : BufTy).Contents (Elt F)),
    unary main_v3 main_v7 (broadcastInDim S4096x8192 ![0, 1] bcast_S4096x1_S4096x8192_0_1 : (⟨S4096x1, .f32⟩ : BufTy).Contents (Elt F) → (⟨S4096x8192, .f32⟩ : BufTy).Contents (Elt F)),
    unary main_v6 main_v8 (broadcastInDim S4096x8192 ![0, 1] bcast_S1x8192_S4096x8192_0_1 : (⟨S1x8192, .f32⟩ : BufTy).Contents (Elt F) → (⟨S4096x8192, .f32⟩ : BufTy).Contents (Elt F)),
    binary main_v7 main_v8 main_v9 (addf : (⟨S4096x8192, .f32⟩ : BufTy).Contents (Elt F) → (⟨S4096x8192, .f32⟩ : BufTy).Contents (Elt F) → (⟨S4096x8192, .f32⟩ : BufTy).Contents (Elt F)),
    unary main_arg1 main_v10 ((transpose S256x8192 [1, 0] · transposes_S8192x256_S256x8192_1_0) : (⟨S8192x256, .f32⟩ : BufTy).Contents (Elt F) → (⟨S256x8192, .f32⟩ : BufTy).Contents (Elt F)),
    binary main_v0 main_v10 main_v11 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)),
    nullary main_cst_1 (constant S_ .f32 0x40000000#32),
    unary main_cst_1 main_v12 (broadcastInDim S4096x8192 ![] bcast_S_S4096x8192 : (⟨S_, .f32⟩ : BufTy).Contents (Elt F) → (⟨S4096x8192, .f32⟩ : BufTy).Contents (Elt F)),
    binary main_v12 main_v11 main_v13 (mulf : (⟨S4096x8192, .f32⟩ : BufTy).Contents (Elt F) → (⟨S4096x8192, .f32⟩ : BufTy).Contents (Elt F) → (⟨S4096x8192, .f32⟩ : BufTy).Contents (Elt F)),
    binary main_v9 main_v13 main_v14 (subf : (⟨S4096x8192, .f32⟩ : BufTy).Contents (Elt F) → (⟨S4096x8192, .f32⟩ : BufTy).Contents (Elt F) → (⟨S4096x8192, .f32⟩ : BufTy).Contents (Elt F)) ]

abbrev opsB : List (HloOp τ sig (Elt F)) :=
  [ nullary main_call0_v0 (iotaInDim S4096x8192 32 1),
    nullary main_call0_cst (constant S_ .f32 0x7F800000#32),
    nullary main_call0_c (constantI S_ 32 0#32),
    quaternary main_v14 main_call0_v0 main_call0_cst main_call0_c main_call0_v1_0 ((fun x y u v j => (Host.argReduce reducer_argmin_f32_i32 x y u v reducesTo_S4096x8192_S4096_d1 h_S_ j).1) : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .f32⟩ : BufTy).Contents (Elt F)),
    quaternary main_v14 main_call0_v0 main_call0_cst main_call0_c main_v15 ((fun x y u v j => (Host.argReduce reducer_argmin_f32_i32 x y u v reducesTo_S4096x8192_S4096_d1 h_S_ j).2) : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .i32⟩ : BufTy).Contents (Elt F)) ]

abbrev opsC : List (HloOp τ sig (Elt F)) :=
  [ nullary main_cst_2 (constant S_ .f32 0x00000000#32),
    unary main_cst_2 main_v16 (broadcastInDim S4096x8192 ![] bcast_S_S4096x8192 : (⟨S_, .f32⟩ : BufTy).Contents (Elt F) → (⟨S4096x8192, .f32⟩ : BufTy).Contents (Elt F)),
    nullary main_v17 (iotaInDim S4096 32 0),
    nullary main_c (constantI S_ 32 0#32),
    unary main_c main_v18 (broadcastInDim S4096 ![] bcast_S_S4096 : (⟨S_, .i32⟩ : BufTy).Contents (Elt F) → (⟨S4096, .i32⟩ : BufTy).Contents (Elt F)),
    binary main_v17 main_v18 main_v19 (cmpi .slt : (⟨S4096, .i32⟩ : BufTy).Contents (Elt F) → (⟨S4096, .i32⟩ : BufTy).Contents (Elt F) → (⟨S4096, .i1⟩ : BufTy).Contents (Elt F)),
    nullary main_c_3 (constantI S_ 32 4096#32),
    unary main_c_3 main_v20 (broadcastInDim S4096 ![] bcast_S_S4096 : (⟨S_, .i32⟩ : BufTy).Contents (Elt F) → (⟨S4096, .i32⟩ : BufTy).Contents (Elt F)),
    binary main_v17 main_v20 main_v21 (addi : (⟨S4096, .i32⟩ : BufTy).Contents (Elt F) → (⟨S4096, .i32⟩ : BufTy).Contents (Elt F) → (⟨S4096, .i32⟩ : BufTy).Contents (Elt F)),
    ternary main_v19 main_v21 main_v17 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_4 (constantI S_ 32 0#32),
    unary main_c_4 main_v23 (broadcastInDim S4096 ![] bcast_S_S4096 : (⟨S_, .i32⟩ : BufTy).Contents (Elt F) → (⟨S4096, .i32⟩ : BufTy).Contents (Elt F)),
    binary main_v15 main_v23 main_v24 (cmpi .slt : (⟨S4096, .i32⟩ : BufTy).Contents (Elt F) → (⟨S4096, .i32⟩ : BufTy).Contents (Elt F) → (⟨S4096, .i1⟩ : BufTy).Contents (Elt F)),
    nullary main_c_5 (constantI S_ 32 8192#32),
    unary main_c_5 main_v25 (broadcastInDim S4096 ![] bcast_S_S4096 : (⟨S_, .i32⟩ : BufTy).Contents (Elt F) → (⟨S4096, .i32⟩ : BufTy).Contents (Elt F)),
    binary main_v15 main_v25 main_v26 (addi : (⟨S4096, .i32⟩ : BufTy).Contents (Elt F) → (⟨S4096, .i32⟩ : BufTy).Contents (Elt F) → (⟨S4096, .i32⟩ : BufTy).Contents (Elt F)),
    ternary main_v24 main_v26 main_v15 main_v27 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v22 main_v28 (broadcastInDim S4096x1 ![0] bcast_S4096_S4096x1_0 : (⟨S4096, .i32⟩ : BufTy).Contents (Elt F) → (⟨S4096x1, .i32⟩ : BufTy).Contents (Elt F)),
    unary main_v27 main_v29 (broadcastInDim S4096x1 ![0] bcast_S4096_S4096x1_0 : (⟨S4096, .i32⟩ : BufTy).Contents (Elt F) → (⟨S4096x1, .i32⟩ : BufTy).Contents (Elt F)),
    binary main_v28 main_v29 main_v30 (pairs (F := F)),
    nullary main_cst_6 (constant S_ .f32 0x3F800000#32),
    unary main_cst_6 main_v31 (broadcastInDim S4096 ![] bcast_S_S4096 : (⟨S_, .f32⟩ : BufTy).Contents (Elt F) → (⟨S4096, .f32⟩ : BufTy).Contents (Elt F)),
    ternary main_v16 main_v30 main_v31 main_v32 ((fun x i u => Host.scatter scatter_S4096x8192_S4096x2_S4096_n_01_01_1 (fun _ b => b) x i u) : (⟨S4096x8192, .f32⟩ : BufTy).Contents (Elt F) → (⟨S4096x2, .i32⟩ : BufTy).Contents (Elt F) → (⟨S4096, .f32⟩ : BufTy).Contents (Elt F) → (⟨S4096x8192, .f32⟩ : BufTy).Contents (Elt F)) ]

abbrev opsD : List (HloOp τ sig (Elt F)) :=
  [ binary main_v32 main_arg1 main_v33 ((fun l r => Host.dotGeneral dot_S4096x8192_S8192x256_S4096x256_1_0_0_1_n_n none l r) : (⟨S4096x8192, .f32⟩ : BufTy).Contents (Elt F) → (⟨S8192x256, .f32⟩ : BufTy).Contents (Elt F) → (⟨S4096x256, .f32⟩ : BufTy).Contents (Elt F)),
    reshape main_v33 main_v34 (rfl : (.f32 : EltTy) = .f32) shapeCasts_S4096x256_S4096x4x4x4x4,
    binary main_v34 main_arg0 main_v35 (subf : (⟨S4096x4x4x4x4, .f32⟩ : BufTy).Contents (Elt F) → (⟨S4096x4x4x4x4, .f32⟩ : BufTy).Contents (Elt F) → (⟨S4096x4x4x4x4, .f32⟩ : BufTy).Contents (Elt F)),
    binary main_v35 main_v35 main_v36 (mulf : (⟨S4096x4x4x4x4, .f32⟩ : BufTy).Contents (Elt F) → (⟨S4096x4x4x4x4, .f32⟩ : BufTy).Contents (Elt F) → (⟨S4096x4x4x4x4, .f32⟩ : BufTy).Contents (Elt F)),
    nullary main_cst_7 (constant S_ .f32 0x00000000#32),
    binary main_v36 main_cst_7 main_v37 ((fun x v => Host.reduceAdd x v reducesTo_S4096x4x4x4x4_S_d0_1_2_3_4 h_S_) : (⟨S4096x4x4x4x4, .f32⟩ : BufTy).Contents (Elt F) → (⟨S_, .f32⟩ : BufTy).Contents (Elt F) → (⟨S_, .f32⟩ : BufTy).Contents (Elt F)),
    nullary main_cst_8 (constant S_ .f32 0x49800000#32),
    binary main_v37 main_cst_8 main_v38 (Host.divf : (⟨S_, .f32⟩ : BufTy).Contents (Elt F) → (⟨S_, .f32⟩ : BufTy).Contents (Elt F) → (⟨S_, .f32⟩ : BufTy).Contents (Elt F)),
    binary main_v34 main_arg0 main_v39 (subf : (⟨S4096x4x4x4x4, .f32⟩ : BufTy).Contents (Elt F) → (⟨S4096x4x4x4x4, .f32⟩ : BufTy).Contents (Elt F) → (⟨S4096x4x4x4x4, .f32⟩ : BufTy).Contents (Elt F)),
    binary main_v39 main_v39 main_v40 (mulf : (⟨S4096x4x4x4x4, .f32⟩ : BufTy).Contents (Elt F) → (⟨S4096x4x4x4x4, .f32⟩ : BufTy).Contents (Elt F) → (⟨S4096x4x4x4x4, .f32⟩ : BufTy).Contents (Elt F)),
    nullary main_cst_9 (constant S_ .f32 0x00000000#32),
    binary main_v40 main_cst_9 main_v41 ((fun x v => Host.reduceAdd x v reducesTo_S4096x4x4x4x4_S_d0_1_2_3_4 h_S_) : (⟨S4096x4x4x4x4, .f32⟩ : BufTy).Contents (Elt F) → (⟨S_, .f32⟩ : BufTy).Contents (Elt F) → (⟨S_, .f32⟩ : BufTy).Contents (Elt F)),
    nullary main_cst_10 (constant S_ .f32 0x49800000#32),
    binary main_v41 main_cst_10 main_v42 (Host.divf : (⟨S_, .f32⟩ : BufTy).Contents (Elt F) → (⟨S_, .f32⟩ : BufTy).Contents (Elt F) → (⟨S_, .f32⟩ : BufTy).Contents (Elt F)),
    nullary main_cst_11 (constant S_ .f32 0x3E800000#32),
    binary main_cst_11 main_v38 main_v43 (mulf : (⟨S_, .f32⟩ : BufTy).Contents (Elt F) → (⟨S_, .f32⟩ : BufTy).Contents (Elt F) → (⟨S_, .f32⟩ : BufTy).Contents (Elt F)),
    binary main_v42 main_v43 main_v44 (addf : (⟨S_, .f32⟩ : BufTy).Contents (Elt F) → (⟨S_, .f32⟩ : BufTy).Contents (Elt F) → (⟨S_, .f32⟩ : BufTy).Contents (Elt F)),
    binary main_v34 main_arg0 main_v45 (subf : (⟨S4096x4x4x4x4, .f32⟩ : BufTy).Contents (Elt F) → (⟨S4096x4x4x4x4, .f32⟩ : BufTy).Contents (Elt F) → (⟨S4096x4x4x4x4, .f32⟩ : BufTy).Contents (Elt F)),
    binary main_arg0 main_v45 main_v46 (addf : (⟨S4096x4x4x4x4, .f32⟩ : BufTy).Contents (Elt F) → (⟨S4096x4x4x4x4, .f32⟩ : BufTy).Contents (Elt F) → (⟨S4096x4x4x4x4, .f32⟩ : BufTy).Contents (Elt F)) ]

abbrev opsE : List (HloOp τ sig (Elt F)) :=
  [ nullary main_cst_12 (constant S_ .f32 0x00000000#32),
    binary main_v32 main_cst_12 main_v47 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)),
    nullary main_cst_13 (constant S_ .f32 0x45800000#32),
    unary main_cst_13 main_v48 (broadcastInDim S8192 ![] bcast_S_S8192 : (⟨S_, .f32⟩ : BufTy).Contents (Elt F) → (⟨S8192, .f32⟩ : BufTy).Contents (Elt F)),
    binary main_v47 main_v48 main_v49 (Host.divf : (⟨S8192, .f32⟩ : BufTy).Contents (Elt F) → (⟨S8192, .f32⟩ : BufTy).Contents (Elt F) → (⟨S8192, .f32⟩ : BufTy).Contents (Elt F)),
    nullary main_cst_14 (constant S_ .f32 0x2EDBE6FF#32),
    unary main_cst_14 main_v50 (broadcastInDim S8192 ![] bcast_S_S8192 : (⟨S_, .f32⟩ : BufTy).Contents (Elt F) → (⟨S8192, .f32⟩ : BufTy).Contents (Elt F)),
    binary main_v49 main_v50 main_v51 (addf : (⟨S8192, .f32⟩ : BufTy).Contents (Elt F) → (⟨S8192, .f32⟩ : BufTy).Contents (Elt F) → (⟨S8192, .f32⟩ : BufTy).Contents (Elt F)),
    unary main_v51 main_v52 (Host.log : (⟨S8192, .f32⟩ : BufTy).Contents (Elt F) → (⟨S8192, .f32⟩ : BufTy).Contents (Elt F)),
    binary main_v49 main_v52 main_v53 (mulf : (⟨S8192, .f32⟩ : BufTy).Contents (Elt F) → (⟨S8192, .f32⟩ : BufTy).Contents (Elt F) → (⟨S8192, .f32⟩ : BufTy).Contents (Elt F)),
    nullary main_cst_15 (constant S_ .f32 0x00000000#32),
    binary main_v53 main_cst_15 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v54 main_v55 (Host.negf : (⟨S_, .f32⟩ : BufTy).Contents (Elt F) → (⟨S_, .f32⟩ : BufTy).Contents (Elt F)),
    unary main_v55 main_v56 (Host.exp : (⟨S_, .f32⟩ : BufTy).Contents (Elt F) → (⟨S_, .f32⟩ : BufTy).Contents (Elt F)) ]

/-- @main's operations, in order. -/
abbrev ops : List (HloOp τ sig (Elt F)) := opsA ++ (opsB ++ (opsC ++ (opsD ++ opsE)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-! ## What each list computes -/

/-- Squared distances of the flat rows to the table's rows: `|x|² + |w|² − 2·(x·wᵀ)`. -/
def dist (x : Vec F S4096x256 .f32) (w : Vec F S8192x256 .f32) : Vec F S4096x8192 .f32 :=
  subf
    (addf
      (broadcastInDim S4096x8192 ![0, 1] bcast_S4096x1_S4096x8192_0_1 (broadcastInDim S4096x1 ![0] bcast_S4096_S4096x1_0
        (Host.reduceAdd (mulf x x) (constant S_ .f32 0x00000000#32) reducesTo_S4096x256_S4096_d1 h_S_)))
      (broadcastInDim S4096x8192 ![0, 1] bcast_S1x8192_S4096x8192_0_1 (broadcastInDim S1x8192 ![1] bcast_S8192_S1x8192_1
        (Host.reduceAdd (mulf w w) (constant S_ .f32 0x00000000#32) reducesTo_S8192x256_S8192_d1 h_S_))))
    (mulf (broadcastInDim S4096x8192 ![] bcast_S_S4096x8192 (constant S_ .f32 0x40000000#32))
      (Host.dotGeneral dot_S4096x256_S256x8192_S4096x8192_1_0_0_1_n_n none x (transpose S256x8192 [1, 0] w transposes_S8192x256_S256x8192_1_0)))

/-- Each row's arg-min. -/
def argmin (d : Vec F S4096x8192 .f32) : IVec S4096 32 := fun j =>
  (Host.argReduce reducer_argmin_f32_i32 d (iotaInDim S4096x8192 32 1) (constant S_ .f32 0x7F800000#32) (constantI S_ 32 0#32)
    reducesTo_S4096x8192_S4096_d1 h_S_ j).2

/-- A row number or column number, wrapped the way the scatter wants it: a negative one counts from the end. -/
def wrap (a : IVec S4096 32) (n : BitVec 32) : IVec S4096 32 :=
  select (cmpi .slt a (broadcastInDim S4096 ![] bcast_S_S4096 (constantI S_ 32 0#32)))
    (addi a (broadcastInDim S4096 ![] bcast_S_S4096 (constantI S_ 32 n))) a

/-- The one-hot matrix: ones scattered into zeros. -/
def onehot (a : IVec S4096 32) : Vec F S4096x8192 .f32 :=
  Host.scatter scatter_S4096x8192_S4096x2_S4096_n_01_01_1 (fun _ b => b)
    (broadcastInDim S4096x8192 ![] bcast_S_S4096x8192 (constant S_ .f32 0x00000000#32))
    (pairs (F := F) (broadcastInDim S4096x1 ![0] bcast_S4096_S4096x1_0 (wrap (iotaInDim S4096 32 0) 4096#32))
      (broadcastInDim S4096x1 ![0] bcast_S4096_S4096x1_0 (wrap a 8192#32)))
    (broadcastInDim S4096 ![] bcast_S_S4096 (constant S_ .f32 0x3F800000#32))

/-- The chosen table rows, in the input's shape. -/
def quant (e : Vec F S4096x8192 .f32) (w : Vec F S8192x256 .f32) : Vec F S4096x4x4x4x4 .f32 :=
  shapeCast S4096x4x4x4x4 (Host.dotGeneral dot_S4096x8192_S8192x256_S4096x256_1_0_0_1_n_n none e w) shapeCasts_S4096x256_S4096x4x4x4x4

/-- The mean squared error of the chosen rows against the input. -/
def mse (q x : Vec F S4096x4x4x4x4 .f32) : Vec F S_ .f32 :=
  Host.divf (Host.reduceAdd (mulf (subf q x) (subf q x)) (constant S_ .f32 0x00000000#32) reducesTo_S4096x4x4x4x4_S_d0_1_2_3_4 h_S_)
    (constant S_ .f32 0x49800000#32)

/-- The loss: the error plus a quarter of it. -/
def loss (q x : Vec F S4096x4x4x4x4 .f32) : Vec F S_ .f32 :=
  addf (mse q x) (mulf (constant S_ .f32 0x3E800000#32) (mse q x))

/-- The straight-through value. -/
def through (q x : Vec F S4096x4x4x4x4 .f32) : Vec F S4096x4x4x4x4 .f32 := addf x (subf q x)

/-- Each column's share of the rows. -/
def share (e : Vec F S4096x8192 .f32) : Vec F S8192 .f32 :=
  Host.divf (Host.reduceAdd e (constant S_ .f32 0x00000000#32) reducesTo_S4096x8192_S8192_d0 h_S_)
    (broadcastInDim S8192 ![] bcast_S_S8192 (constant S_ .f32 0x45800000#32))

/-- The perplexity: the exponential of the shares' entropy. -/
def perplexity (e : Vec F S4096x8192 .f32) : Vec F S_ .f32 :=
  Host.exp (Host.negf (Host.reduceAdd
    (mulf (share e) (Host.log (addf (share e) (broadcastInDim S8192 ![] bcast_S_S8192 (constant S_ .f32 0x2EDBE6FF#32)))))
    (constant S_ .f32 0x00000000#32) reducesTo_S8192_S_d0 h_S_))

section Lists

variable (v : Valuation τ sig (Elt F))

theorem afterA_v14 : after opsA v (Proc.devRef .tc main_v14)
    = dist (shapeCast S4096x256 (v (Proc.devRef .tc main_arg0)) shapeCasts_S4096x4x4x4x4_S4096x256) (v (Proc.devRef .tc main_arg1)) := by
  after_results_simp <;> rfl
theorem afterA_arg0 : after opsA v (Proc.devRef .tc main_arg0) = v (Proc.devRef .tc main_arg0) := by after_results_simp
theorem afterA_arg1 : after opsA v (Proc.devRef .tc main_arg1) = v (Proc.devRef .tc main_arg1) := by after_results_simp

theorem afterB_v15 : after opsB v (Proc.devRef .tc main_v15) = argmin (v (Proc.devRef .tc main_v14)) := by
  after_results_simp <;> rfl
theorem afterB_arg0 : after opsB v (Proc.devRef .tc main_arg0) = v (Proc.devRef .tc main_arg0) := by after_results_simp
theorem afterB_arg1 : after opsB v (Proc.devRef .tc main_arg1) = v (Proc.devRef .tc main_arg1) := by after_results_simp

theorem afterC_v32 : after opsC v (Proc.devRef .tc main_v32) = onehot (v (Proc.devRef .tc main_v15)) := by
  after_results_simp <;> rfl
theorem afterC_arg0 : after opsC v (Proc.devRef .tc main_arg0) = v (Proc.devRef .tc main_arg0) := by after_results_simp
theorem afterC_arg1 : after opsC v (Proc.devRef .tc main_arg1) = v (Proc.devRef .tc main_arg1) := by after_results_simp

theorem afterD_v44 : after opsD v (Proc.devRef .tc main_v44)
    = loss (quant (v (Proc.devRef .tc main_v32)) (v (Proc.devRef .tc main_arg1))) (v (Proc.devRef .tc main_arg0)) := by
  after_results_simp <;> rfl
theorem afterD_v46 : after opsD v (Proc.devRef .tc main_v46)
    = through (quant (v (Proc.devRef .tc main_v32)) (v (Proc.devRef .tc main_arg1))) (v (Proc.devRef .tc main_arg0)) := by
  after_results_simp <;> rfl
theorem afterD_v32 : after opsD v (Proc.devRef .tc main_v32) = v (Proc.devRef .tc main_v32) := by after_results_simp
theorem afterD_arg0 : after opsD v (Proc.devRef .tc main_arg0) = v (Proc.devRef .tc main_arg0) := by after_results_simp
theorem afterD_arg1 : after opsD v (Proc.devRef .tc main_arg1) = v (Proc.devRef .tc main_arg1) := by after_results_simp

theorem afterE_v56 : after opsE v (Proc.devRef .tc main_v56) = perplexity (v (Proc.devRef .tc main_v32)) := by
  after_results_simp <;> rfl
theorem afterE_v44 : after opsE v (Proc.devRef .tc main_v44) = v (Proc.devRef .tc main_v44) := by after_results_simp
theorem afterE_v46 : after opsE v (Proc.devRef .tc main_v46) = v (Proc.devRef .tc main_v46) := by after_results_simp
theorem afterE_v32 : after opsE v (Proc.devRef .tc main_v32) = v (Proc.devRef .tc main_v32) := by after_results_simp
theorem afterE_arg0 : after opsE v (Proc.devRef .tc main_arg0) = v (Proc.devRef .tc main_arg0) := by after_results_simp
theorem afterE_arg1 : after opsE v (Proc.devRef .tc main_arg1) = v (Proc.devRef .tc main_arg1) := by after_results_simp

theorem after_append (l₁ l₂ : List (HloOp τ sig (Elt F))) : after (l₁ ++ l₂) v = after l₂ (after l₁ v) := by
  induction l₁ generalizing v with
  | nil => rfl
  | cons o l₁ ih => rw [List.cons_append, after_cons, after_cons, ih]

/-- The one-hot matrix of the two arguments. -/
def resEnc (x : Vec F S4096x4x4x4x4 .f32) (w : Vec F S8192x256 .f32) : Vec F S4096x8192 .f32 :=
  onehot (argmin (dist (shapeCast S4096x256 x shapeCasts_S4096x4x4x4x4_S4096x256) w))

theorem after_v32 : after ops v (Proc.devRef .tc main_v32) = resEnc (v (Proc.devRef .tc main_arg0)) (v (Proc.devRef .tc main_arg1)) := by
  simp only [ops, after_append]
  rw [afterE_v32, afterD_v32, afterC_v32, afterB_v15, afterA_v14]; rfl
theorem after_v44 : after ops v (Proc.devRef .tc main_v44)
    = loss (quant (resEnc (v (Proc.devRef .tc main_arg0)) (v (Proc.devRef .tc main_arg1))) (v (Proc.devRef .tc main_arg1))) (v (Proc.devRef .tc main_arg0)) := by
  simp only [ops, after_append]
  rw [afterE_v44, afterD_v44, afterC_v32, afterC_arg0, afterC_arg1, afterB_v15, afterB_arg0, afterB_arg1, afterA_v14, afterA_arg0, afterA_arg1]; rfl
theorem after_v46 : after ops v (Proc.devRef .tc main_v46)
    = through (quant (resEnc (v (Proc.devRef .tc main_arg0)) (v (Proc.devRef .tc main_arg1))) (v (Proc.devRef .tc main_arg1))) (v (Proc.devRef .tc main_arg0)) := by
  simp only [ops, after_append]
  rw [afterE_v46, afterD_v46, afterC_v32, afterC_arg0, afterC_arg1, afterB_v15, afterB_arg0, afterB_arg1, afterA_v14, afterA_arg0, afterA_arg1]; rfl
theorem after_v56 : after ops v (Proc.devRef .tc main_v56) = perplexity (resEnc (v (Proc.devRef .tc main_arg0)) (v (Proc.devRef .tc main_arg1))) := by
  simp only [ops, after_append]
  rw [afterE_v56, afterD_v32, afterC_v32, afterB_v15, afterA_v14]; rfl
theorem after_arg0 : after ops v (Proc.devRef .tc main_arg0) = v (Proc.devRef .tc main_arg0) := by
  simp only [ops, after_append]; rw [afterE_arg0, afterD_arg0, afterC_arg0, afterB_arg0, afterA_arg0]
theorem after_arg1 : after ops v (Proc.devRef .tc main_arg1) = v (Proc.devRef .tc main_arg1) := by
  simp only [ops, after_append]; rw [afterE_arg1, afterD_arg1, afterC_arg1, afterB_arg1, afterA_arg1]

end Lists

set_option maxHeartbeats 4000000 in
/-- Every weakly fair execution of the reference terminates with its four results at the terms above, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = loss (quant (resEnc (m ((c.tc : Thread nD τ).loc main_arg0)) (m ((c.tc : Thread nD τ).loc main_arg1))) (m ((c.tc : Thread nD τ).loc main_arg1))) (m ((c.tc : Thread nD τ).loc main_arg0))
      ∧ r.2.mem ((c.tc : Thread nD τ).loc main_v46) = through (quant (resEnc (m ((c.tc : Thread nD τ).loc main_arg0)) (m ((c.tc : Thread nD τ).loc main_arg1))) (m ((c.tc : Thread nD τ).loc main_arg1))) (m ((c.tc : Thread nD τ).loc main_arg0))
      ∧ r.2.mem ((c.tc : Thread nD τ).loc main_v56) = perplexity (resEnc (m ((c.tc : Thread nD τ).loc main_arg0)) (m ((c.tc : Thread nD τ).loc main_arg1)))
      ∧ r.2.mem ((c.tc : Thread nD τ).loc main_v32) = resEnc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v44).trans (after_v44 _), (h c main_v46).trans (after_v46 _),
      (h c main_v56).trans (after_v56 _), (h c main_v32).trans (after_v32 _), (h c main_arg0).trans (after_arg0 _), (h c main_arg1).trans (after_arg1 _)⟩)
    (run_seq scopedRefs_eq scopedSems_eq defs main (fun _ => ops) main_eq (fun _ => ops_sub) m ρ)

end Cert.ReferenceIdeal.Val

end
-- ==== Proof.Point.lean ====
/- What one grid point leaves in each buffer the kernel writes, as a plain value of the blocks it loads: the one-hot block,
   the straight-through block, the running sum of squared errors, the running column counts, and, at the last point, the
   two scalar results. Each of the three cases of the body (first, middle, last point) is read off its stored pieces. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

/-- The one-hot block of the point's input block. -/
abbrev encB (x0 : Vec F S256x256 .f32) (x1 : Vec F S8192x256 .f32) (x2 : Vec F S1x8192 .f32) (x3 : Vec F S1x8192 .i32) :
    Vec F S256x8192 .f32 := k0_pay10 x0 x1 x2 x3
/-- The straight-through block. -/
abbrev qstB (x0 : Vec F S256x256 .f32) (x1 : Vec F S8192x256 .f32) (x2 : Vec F S1x8192 .f32) (x3 : Vec F S1x8192 .i32) :
    Vec F S256x256 .f32 := k0_pay3 (k0_pay9 x0) x1 (encB x0 x1 x2 x3)
/-- The running sum of squared errors after the point, from the one before it. -/
abbrev accB (x0 : Vec F S256x256 .f32) (x1 : Vec F S8192x256 .f32) (x2 : Vec F S1x8192 .f32) (x3 : Vec F S1x8192 .i32)
    (s : Vec F S1x1 .f32) : Vec F S1x1 .f32 := k0_pay4 (k0_pay9 x0) x1 (encB x0 x1 x2 x3) s
/-- The running counts after the point, from the ones before it. -/
abbrev cntB (x0 : Vec F S256x256 .f32) (x1 : Vec F S8192x256 .f32) (x2 : Vec F S1x8192 .f32) (x3 : Vec F S1x8192 .i32)
    (s : Vec F S8x8192 .f32) : Vec F S8x8192 .f32 := k0_pay1 s (k0_pay11 x0 x1 x2 x3)

section Cases

variable (c : Dev nD) (i : grid0.Coords) (a1 : Memref sig .tc .vmem S256x256 .f32) (h1 : a1.IsWhole) (a2 : Memref sig .tc .vmem S8192x256 .f32) (h2 : a2.IsWhole) (a3 : Memref sig .tc .vmem S1x8192 .f32) (h3 : a3.IsWhole) (a4 : Memref sig .tc .vmem S1x8192 .i32) (h4 : a4.IsWhole) (a5 : Memref sig .tc .vmem S256x8192 .f32) (h5 : a5.IsWhole) (a6 : Memref sig .tc .vmem S256x256 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S8x8192 .f32) (h10 : a10.IsWhole)
  (x0 : Vec F S256x256 .f32) (x1 : Vec F S8192x256 .f32) (x2 : Vec F S1x8192 .f32) (x3 : Vec F S1x8192 .i32)
  (s0 : Vec F S1x1 .f32) (s1 : Vec F S8x8192 .f32)

set_option maxHeartbeats 1000000 in
theorem oA4 (hc0 : cond0_0 i) (hc1 : ¬cond0_1 i) : out0_A_4 c i a1 h1 a2 h2 a3 h3 a4 h4 a5 h5 a6 h6 a7 h7 a8 h8 a9 h9 a10 h10 hc0 hc1 x0 x1 x2 x3 = encB x0 x1 x2 x3 := by
  unfold out0_A_4
  rw [View.read_writes_eq_canon _ _ _ (cover0_A_4 c i a1 h1 a2 h2 a3 h3 a4 h4 a5 h5 a6 h6 a7 h7 a8 h8 a9 h9 a10 h10 hc0 hc1 x0 x1 x2 x3)]
  unfold kernelRun0_A
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oA5 (hc0 : cond0_0 i) (hc1 : ¬cond0_1 i) : out0_A_5 c i a1 h1 a2 h2 a3 h3 a4 h4 a5 h5 a6 h6 a7 h7 a8 h8 a9 h9 a10 h10 hc0 hc1 x0 x1 x2 x3 = qstB x0 x1 x2 x3 := by
  unfold out0_A_5
  rw [View.read_writes_eq_canon _ _ _ (cover0_A_5 c i a1 h1 a2 h2 a3 h3 a4 h4 a5 h5 a6 h6 a7 h7 a8 h8 a9 h9 a10 h10 hc0 hc1 x0 x1 x2 x3)]
  unfold kernelRun0_A
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem sA0 (hc0 : cond0_0 i) (hc1 : ¬cond0_1 i) : sout0_A_0 c i a1 h1 a2 h2 a3 h3 a4 h4 a5 h5 a6 h6 a7 h7 a8 h8 a9 h9 a10 h10 hc0 hc1 x0 x1 x2 x3 = accB x0 x1 x2 x3 k0_pay7 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3)]
  unfold kernelRun0_A
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem sA1 (hc0 : cond0_0 i) (hc1 : ¬cond0_1 i) : sout0_A_1 c i a1 h1 a2 h2 a3 h3 a4 h4 a5 h5 a6 h6 a7 h7 a8 h8 a9 h9 a10 h10 hc0 hc1 x0 x1 x2 x3 = cntB x0 x1 x2 x3 k0_pay8 := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3)]
  unfold kernelRun0_A
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oB4 (hc0 : ¬cond0_0 i) (hc1 : ¬cond0_1 i) : out0_B_4 c i a1 h1 a2 h2 a3 h3 a4 h4 a5 h5 a6 h6 a7 h7 a8 h8 a9 h9 a10 h10 hc0 hc1 x0 x1 x2 x3 s0 s1 = encB x0 x1 x2 x3 := by
  unfold out0_B_4
  rw [View.read_writes_eq_canon _ _ _ (cover0_B_4 c i a1 h1 a2 h2 a3 h3 a4 h4 a5 h5 a6 h6 a7 h7 a8 h8 a9 h9 a10 h10 hc0 hc1 x0 x1 x2 x3 s0 s1)]
  unfold kernelRun0_B
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oB5 (hc0 : ¬cond0_0 i) (hc1 : ¬cond0_1 i) : out0_B_5 c i a1 h1 a2 h2 a3 h3 a4 h4 a5 h5 a6 h6 a7 h7 a8 h8 a9 h9 a10 h10 hc0 hc1 x0 x1 x2 x3 s0 s1 = qstB x0 x1 x2 x3 := by
  unfold out0_B_5
  rw [View.read_writes_eq_canon _ _ _ (cover0_B_5 c i a1 h1 a2 h2 a3 h3 a4 h4 a5 h5 a6 h6 a7 h7 a8 h8 a9 h9 a10 h10 hc0 hc1 x0 x1 x2 x3 s0 s1)]
  unfold kernelRun0_B
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem sB0 (hc0 : ¬cond0_0 i) (hc1 : ¬cond0_1 i) : sout0_B_0 c i a1 h1 a2 h2 a3 h3 a4 h4 a5 h5 a6 h6 a7 h7 a8 h8 a9 h9 a10 h10 hc0 hc1 x0 x1 x2 x3 s0 s1 = accB x0 x1 x2 x3 s0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 s0 s1)]
  unfold kernelRun0_B
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem sB1 (hc0 : ¬cond0_0 i) (hc1 : ¬cond0_1 i) : sout0_B_1 c i a1 h1 a2 h2 a3 h3 a4 h4 a5 h5 a6 h6 a7 h7 a8 h8 a9 h9 a10 h10 hc0 hc1 x0 x1 x2 x3 s0 s1 = cntB x0 x1 x2 x3 s1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 s0 s1)]
  unfold kernelRun0_B
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oC4 (hc0 : ¬cond0_0 i) (hc1 : cond0_1 i) : out0_C_4 c i a1 h1 a2 h2 a3 h3 a4 h4 a5 h5 a6 h6 a7 h7 a8 h8 a9 h9 a10 h10 hc0 hc1 x0 x1 x2 x3 s0 s1 = encB x0 x1 x2 x3 := by
  unfold out0_C_4
  rw [View.read_writes_eq_canon _ _ _ (cover0_C_4 c i a1 h1 a2 h2 a3 h3 a4 h4 a5 h5 a6 h6 a7 h7 a8 h8 a9 h9 a10 h10 hc0 hc1 x0 x1 x2 x3 s0 s1)]
  unfold kernelRun0_C
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oC5 (hc0 : ¬cond0_0 i) (hc1 : cond0_1 i) : out0_C_5 c i a1 h1 a2 h2 a3 h3 a4 h4 a5 h5 a6 h6 a7 h7 a8 h8 a9 h9 a10 h10 hc0 hc1 x0 x1 x2 x3 s0 s1 = qstB x0 x1 x2 x3 := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 s0 s1)]
  unfold kernelRun0_C
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem sC0 (hc0 : ¬cond0_0 i) (hc1 : cond0_1 i) : sout0_C_0 c i a1 h1 a2 h2 a3 h3 a4 h4 a5 h5 a6 h6 a7 h7 a8 h8 a9 h9 a10 h10 hc0 hc1 x0 x1 x2 x3 s0 s1 = accB x0 x1 x2 x3 s0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 s0 s1)]
  unfold kernelRun0_C
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem sC1 (hc0 : ¬cond0_0 i) (hc1 : cond0_1 i) : sout0_C_1 c i a1 h1 a2 h2 a3 h3 a4 h4 a5 h5 a6 h6 a7 h7 a8 h8 a9 h9 a10 h10 hc0 hc1 x0 x1 x2 x3 s0 s1 = cntB x0 x1 x2 x3 s1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 s0 s1)]
  unfold kernelRun0_C
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oC6 (hc0 : ¬cond0_0 i) (hc1 : cond0_1 i) : out0_C_6 c i a1 h1 a2 h2 a3 h3 a4 h4 a5 h5 a6 h6 a7 h7 a8 h8 a9 h9 a10 h10 hc0 hc1 x0 x1 x2 x3 s0 s1 = k0_pay5 (accB x0 x1 x2 x3 s0) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 s0 s1)]
  unfold kernelRun0_C
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

set_option maxHeartbeats 1000000 in
theorem oC7 (hc0 : ¬cond0_0 i) (hc1 : cond0_1 i) : out0_C_7 c i a1 h1 a2 h2 a3 h3 a4 h4 a5 h5 a6 h6 a7 h7 a8 h8 a9 h9 a10 h10 hc0 hc1 x0 x1 x2 x3 s0 s1 = k0_pay6 (cntB x0 x1 x2 x3 s1) := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 s0 s1)]
  unfold kernelRun0_C
  dsimp only
  sl_unfold_words
  simp only [View.canon_unit_zero (S := S256x8192) hz2, View.canon_unit_zero (S := S256x256) hz2, View.canon_unit_zero (S := S1x1) hz2, View.canon_unit_zero (S := S8x8192) hz2,
    View.canon_cons_unit_zero (S := S1x1) hz2, View.canon_cons_unit_zero (S := S8x8192) hz2,
    View.readCov_unit_zero (S := S1x1) _ hz2, View.readCov_unit_zero (S := S8x8192) _ hz2, View.readAt_eq_ld, h1.read_unread, h2.read_unread, h3.read_unread, h4.read_unread, h9.read_unread, h10.read_unread,
    View.ld_unit_zero (S := S256x256) hz2, View.ld_unit_zero (S := S8192x256) hz2, View.ld_unit_zero (S := S1x8192) hz2, View.ld_unit_zero (S := S1x1) hz2, View.ld_unit_zero (S := S8x8192) hz2]

end Cases

end Cert.KernelIdeal.Val

end
-- ==== Proof.Region.lean ====
/- What the region leaves in each of its four output arrays: the carried sums as a recursion over the points, and each array
   after the run as a function of the blocks the points load. -/
module

public import proofs.«01_k».proof.Proof.Point

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline

variable {F : FTy → Type} [FloatOps F] (m : (b : Loc nD τ sig) → Buf (Elt F) b)

/-- The one-hot block point `t` stores. -/
abbrev encAt (c : Dev nD) (t : Fin cfg0.N) : Vec F S256x8192 .f32 := encB (iblk m c 0 t) (iblk m c 1 t) (iblk m c 2 t) (iblk m c 3 t)
/-- The straight-through block point `t` stores. -/
abbrev qstAt (c : Dev nD) (t : Fin cfg0.N) : Vec F S256x256 .f32 := qstB (iblk m c 0 t) (iblk m c 1 t) (iblk m c 2 t) (iblk m c 3 t)

/-- The running sum of squared errors after point `n`. -/
def accN (c : Dev nD) : (n : ℕ) → n < cfg0.N → Vec F S1x1 .f32
  | 0, h => accB (iblk m c 0 ⟨0, h⟩) (iblk m c 1 ⟨0, h⟩) (iblk m c 2 ⟨0, h⟩) (iblk m c 3 ⟨0, h⟩) k0_pay7
  | n + 1, h => accB (iblk m c 0 ⟨n + 1, h⟩) (iblk m c 1 ⟨n + 1, h⟩) (iblk m c 2 ⟨n + 1, h⟩) (iblk m c 3 ⟨n + 1, h⟩) (accN c n (Nat.lt_of_succ_lt h))

/-- The running counts after point `n`. -/
def cntN (c : Dev nD) : (n : ℕ) → n < cfg0.N → Vec F S8x8192 .f32
  | 0, h => cntB (iblk m c 0 ⟨0, h⟩) (iblk m c 1 ⟨0, h⟩) (iblk m c 2 ⟨0, h⟩) (iblk m c 3 ⟨0, h⟩) k0_pay8
  | n + 1, h => cntB (iblk m c 0 ⟨n + 1, h⟩) (iblk m c 1 ⟨n + 1, h⟩) (iblk m c 2 ⟨n + 1, h⟩) (iblk m c 3 ⟨n + 1, h⟩) (cntN c n (Nat.lt_of_succ_lt h))

/-- What every point leaves: its two blocks, and the two running sums. -/
theorem outs_eq (c : Dev nD) : ∀ (n : ℕ) (h : n < cfg0.N),
    (outsAt0 m c n h).1 = encAt m c ⟨n, h⟩ ∧ (outsAt0 m c n h).2.1 = qstAt m c ⟨n, h⟩
      ∧ (outsAt0 m c n h).2.2.2.2.1 = accN m c n h ∧ (outsAt0 m c n h).2.2.2.2.2 = cntN m c n h
  | 0, h => by
    have e := outsAt0_A m c ⟨0, h⟩ rfl (by show ¬0 % 16 = 15; decide)
    dsimp only at e
    rw [e]
    dsimp only
    exact ⟨oA4 .., oA5 .., sA0 .., sA1 ..⟩
  | n + 1, h => by
    have ih := outs_eq c n (Nat.lt_of_succ_lt h)
    have hN : n + 1 < 16 := lt_of_lt_of_eq h N_0
    have h0 : ¬(n + 1) % 16 = 0 := by omega
    by_cases h1 : (n + 1) % 16 = 15
    · have e := outsAt0_C m c ⟨n + 1, h⟩ h0 h1
      dsimp only at e
      rw [e]
      dsimp only
      refine ⟨oC4 .., oC5 .., ?_, ?_⟩
      · refine (sC0 ..).trans ?_
        show accB _ _ _ _ (outsAt0 m c n _).2.2.2.2.1 = _
        rw [ih.2.2.1, accN]
      · refine (sC1 ..).trans ?_
        show cntB _ _ _ _ (outsAt0 m c n _).2.2.2.2.2 = _
        rw [ih.2.2.2, cntN]
    · have e := outsAt0_B m c ⟨n + 1, h⟩ h0 h1
      dsimp only at e
      rw [e]
      dsimp only
      refine ⟨oB4 .., oB5 .., ?_, ?_⟩
      · refine (sB0 ..).trans ?_
        show accB _ _ _ _ (outsAt0 m c n _).2.2.2.2.1 = _
        rw [ih.2.2.1, accN]
      · refine (sB1 ..).trans ?_
        show cntB _ _ _ _ (outsAt0 m c n _).2.2.2.2.2 = _
        rw [ih.2.2.2, cntN]

theorem h15 : 15 < cfg0.N := lt_of_lt_of_eq (by decide) N_0.symm

/-- The last point also leaves the two scalar results, read off the running sums. -/
theorem outs_last (c : Dev nD) :
    (outsAt0 m c 15 h15).2.2.1 = k0_pay5 (accN m c 15 h15) ∧ (outsAt0 m c 15 h15).2.2.2.1 = k0_pay6 (cntN m c 15 h15) := by
  have e := outsAt0_C m c ⟨15, h15⟩ (by decide) rfl
  have ih := outs_eq m c 14 (Nat.lt_of_succ_lt h15)
  dsimp only at e
  rw [e]
  dsimp only
  constructor
  · refine (oC6 ..).trans ?_
    show k0_pay5 (accB _ _ _ _ (outsAt0 m c 14 _).2.2.2.2.1) = _
    rw [ih.2.2.1]
    rfl
  · refine (oC7 ..).trans ?_
    show k0_pay6 (cntB _ _ _ _ (outsAt0 m c 14 _).2.2.2.2.2) = _
    rw [ih.2.2.2]
    rfl

/-! ## The array of each output window after the run -/

/-- The point whose block of output 4 holds array index `i`, and `i`'s place in that block. -/
abbrev pt4 (i : S4096x8192.Idx) : Fin cfg0.N := ⟨(i 0).val / 256, lt_of_lt_of_eq (show (i 0).val / 256 < 16 from by
  have h : (i 0).val < 4096 := (i 0).isLt
  omega) N_0.symm⟩
set_option backward.proofsInPublic true in
abbrev loc4 (i : S4096x8192.Idx) : S256x8192.Idx := fun a => match a with
  | ⟨0, _⟩ => ⟨(i 0).val % 256, Nat.mod_lt _ (by decide)⟩
  | ⟨1, _⟩ => ⟨(i 1).val, (i 1).isLt⟩

/-- The array of output 4 after the run. -/
def arr4 (c : Dev nD) : Buf (Elt F) ((c : Thread nD τ).loc main_v5_0) := fun i => encAt m c (pt4 i) (loc4 i)

theorem idx4 : ∀ t : Fin cfg0.N, win0_4.index t (0 : Fin 2) = t.val ∧ win0_4.index t (1 : Fin 2) = 0 :=
  (by decide +kernel : ∀ t : Fin grid0.N, _)

theorem flushed4 (c : Dev nD) (t : Fin cfg0.N) :
    (dats m 0 c).flushed 4 t = ((cfg0.win 4).blk t).view.read (Elt F) (arr4 m c) := by
  show (cfg0.win 4).cut (grid0.coords t) ((dats m 0 c).after 4 t) = _
  rw [after0_4, (outs_eq m c t.val t.isLt).1]
  obtain ⟨e0, e1⟩ := idx4 t
  funext y
  have hy0 : (y 0).val < 256 := (y 0).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 8192 + 1 * (y 1).val := rfl
  have hp : pt4 (((cfg0.win 4).blk t).view.emb y) = t := by
    apply Fin.ext
    show (((cfg0.win 4).blk t).view.emb y 0).val / 256 = t.val
    rw [hb0]; omega
  have hl : loc4 (((cfg0.win 4).blk t).view.emb y) = (cfg0.win 4).xinj (grid0.coords t) y := by
    funext a; apply Fin.ext
    match a with
    | ⟨0, _⟩ => show (((cfg0.win 4).blk t).view.emb y 0).val % 256 = (y 0).val; rw [hb0]; omega
    | ⟨1, _⟩ => show (((cfg0.win 4).blk t).view.emb y 1).val = (y 1).val; rw [hb1]; omega
  show encAt m c t ((cfg0.win 4).xinj (grid0.coords t) y) = arr4 m c (((cfg0.win 4).blk t).view.emb y)
  unfold arr4
  rw [hp, hl]

theorem mem_blk4 (t : Fin cfg0.N) (i : S4096x8192.Idx) :
    i ∈ ((cfg0.win 4).blk t).view.set ↔ ∀ a : Fin 2, win0_4.index t a * S256x8192.size a ≤ (i a).val ∧ (i a).val < win0_4.index t a * S256x8192.size a + S256x8192.size a := by
  show i ∈ ((View.whole main_v5_0).slice (win0_4.rect t)).set ↔ _
  rw [View.set_slice_whole, Rect.mem_set_unit]
  exact Iff.rfl

theorem final4 (c : Dev nD) : (dats m 0 c).arrAt 4 cfg0.N = arr4 m c :=
  (dats m 0 c).arrAt_eq_of_cover 4 _ (fun t _ => flushed4 m c t) (fun i => by
    have hi0 : (i 0).val < 4096 := (i 0).isLt
    have hi1 : (i 1).val < 8192 := (i 1).isLt
    obtain ⟨e0, e1⟩ := idx4 (pt4 i)
    have e0' : win0_4.index (pt4 i) (0 : Fin 2) = (i 0).val / 256 := e0
    refine ⟨pt4 i, flush0_4 _, ?_⟩
    rw [mem_blk4]
    intro a
    match a with
    | ⟨0, _⟩ => show win0_4.index (pt4 i) (0 : Fin 2) * 256 ≤ (i 0).val ∧ (i 0).val < win0_4.index (pt4 i) (0 : Fin 2) * 256 + 256; omega
    | ⟨1, _⟩ => show win0_4.index (pt4 i) (1 : Fin 2) * 8192 ≤ (i 1).val ∧ (i 1).val < win0_4.index (pt4 i) (1 : Fin 2) * 8192 + 8192; omega)

/-- The point whose block of output 5 holds array index `i`, and `i`'s place in that block. -/
abbrev pt5 (i : S4096x256.Idx) : Fin cfg0.N := ⟨(i 0).val / 256, lt_of_lt_of_eq (show (i 0).val / 256 < 16 from by
  have h : (i 0).val < 4096 := (i 0).isLt
  omega) N_0.symm⟩
set_option backward.proofsInPublic true in
abbrev loc5 (i : S4096x256.Idx) : S256x256.Idx := fun a => match a with
  | ⟨0, _⟩ => ⟨(i 0).val % 256, Nat.mod_lt _ (by decide)⟩
  | ⟨1, _⟩ => ⟨(i 1).val, (i 1).isLt⟩

/-- The array of output 5 after the run. -/
def arr5 (c : Dev nD) : Buf (Elt F) ((c : Thread nD τ).loc main_v5_1) := fun i => qstAt m c (pt5 i) (loc5 i)

theorem idx5 : ∀ t : Fin cfg0.N, win0_5.index t (0 : Fin 2) = t.val ∧ win0_5.index t (1 : Fin 2) = 0 :=
  (by decide +kernel : ∀ t : Fin grid0.N, _)

theorem flushed5 (c : Dev nD) (t : Fin cfg0.N) :
    (dats m 0 c).flushed 5 t = ((cfg0.win 5).blk t).view.read (Elt F) (arr5 m c) := by
  show (cfg0.win 5).cut (grid0.coords t) ((dats m 0 c).after 5 t) = _
  rw [after0_5, (outs_eq m c t.val t.isLt).2.1]
  obtain ⟨e0, e1⟩ := idx5 t
  funext y
  have hy0 : (y 0).val < 256 := (y 0).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 256 + 1 * (y 1).val := rfl
  have hp : pt5 (((cfg0.win 5).blk t).view.emb y) = t := by
    apply Fin.ext
    show (((cfg0.win 5).blk t).view.emb y 0).val / 256 = t.val
    rw [hb0]; omega
  have hl : loc5 (((cfg0.win 5).blk t).view.emb y) = (cfg0.win 5).xinj (grid0.coords t) y := by
    funext a; apply Fin.ext
    match a with
    | ⟨0, _⟩ => show (((cfg0.win 5).blk t).view.emb y 0).val % 256 = (y 0).val; rw [hb0]; omega
    | ⟨1, _⟩ => show (((cfg0.win 5).blk t).view.emb y 1).val = (y 1).val; rw [hb1]; omega
  show qstAt m c t ((cfg0.win 5).xinj (grid0.coords t) y) = arr5 m c (((cfg0.win 5).blk t).view.emb y)
  unfold arr5
  rw [hp, hl]

theorem mem_blk5 (t : Fin cfg0.N) (i : S4096x256.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v5_1).slice (win0_5.rect t)).set ↔ _
  rw [View.set_slice_whole, Rect.mem_set_unit]
  exact Iff.rfl

theorem final5 (c : Dev nD) : (dats m 0 c).arrAt 5 cfg0.N = arr5 m c :=
  (dats m 0 c).arrAt_eq_of_cover 5 _ (fun t _ => flushed5 m c t) (fun i => by
    have hi0 : (i 0).val < 4096 := (i 0).isLt
    have hi1 : (i 1).val < 256 := (i 1).isLt
    obtain ⟨e0, e1⟩ := idx5 (pt5 i)
    have e0' : win0_5.index (pt5 i) (0 : Fin 2) = (i 0).val / 256 := e0
    refine ⟨pt5 i, flush0_5 _, ?_⟩
    rw [mem_blk5]
    intro a
    match a with
    | ⟨0, _⟩ => show win0_5.index (pt5 i) (0 : Fin 2) * 256 ≤ (i 0).val ∧ (i 0).val < win0_5.index (pt5 i) (0 : Fin 2) * 256 + 256; omega
    | ⟨1, _⟩ => show win0_5.index (pt5 i) (1 : Fin 2) * 256 ≤ (i 1).val ∧ (i 1).val < win0_5.index (pt5 i) (1 : Fin 2) * 256 + 256; omega)

/-- The array of output 6 after the run: one number. -/
def arr6 (c : Dev nD) : Buf (Elt F) ((c : Thread nD τ).loc main_v5_2) := k0_pay5 (accN m c 15 h15)

theorem idx6 : ∀ t : Fin cfg0.N, win0_6.index t (0 : Fin 2) = 0 ∧ win0_6.index t (1 : Fin 2) = 0 :=
  (by decide +kernel : ∀ t : Fin grid0.N, _)

theorem flushed6 (c : Dev nD) (t : Fin cfg0.N) (hf : (cfg0.win 6).flush t = true) :
    (dats m 0 c).flushed 6 t = ((cfg0.win 6).blk t).view.read (Elt F) (arr6 m c) := by
  have hm : t.val % 16 = 15 := (flush0_6 t).mp hf
  have hN : t.val < 16 := lt_of_lt_of_eq t.isLt N_0
  obtain rfl : t = ⟨15, h15⟩ := Fin.ext (by show t.val = 15; omega)
  show (cfg0.win 6).cut (grid0.coords ⟨15, h15⟩) ((dats m 0 c).after 6 ⟨15, h15⟩) = _
  rw [after0_6, (outs_last m c).1]
  obtain ⟨e0, e1⟩ := idx6 ⟨15, h15⟩
  funext y
  have hb0 : (((cfg0.win 6).blk ⟨15, h15⟩).view.emb y 0).val = win0_6.index ⟨15, h15⟩ (0 : Fin 2) * 1 + 1 * (y 0).val := rfl
  have hb1 : (((cfg0.win 6).blk ⟨15, h15⟩).view.emb y 1).val = win0_6.index ⟨15, h15⟩ (1 : Fin 2) * 1 + 1 * (y 1).val := rfl
  have hl : ((cfg0.win 6).blk ⟨15, h15⟩).view.emb y = (cfg0.win 6).xinj (grid0.coords ⟨15, h15⟩) y := by
    funext a; apply Fin.ext
    match a with
    | ⟨0, _⟩ => show (((cfg0.win 6).blk ⟨15, h15⟩).view.emb y 0).val = (y 0).val; rw [hb0]; omega
    | ⟨1, _⟩ => show (((cfg0.win 6).blk ⟨15, h15⟩).view.emb y 1).val = (y 1).val; rw [hb1]; omega
  show (k0_pay5 (accN m c 15 h15)) ((cfg0.win 6).xinj (grid0.coords ⟨15, h15⟩) y) = arr6 m c (((cfg0.win 6).blk ⟨15, h15⟩).view.emb y)
  rw [hl]
  rfl

theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v5_2).slice (win0_6.rect t)).set ↔ _
  rw [View.set_slice_whole, Rect.mem_set_unit]
  exact Iff.rfl

theorem final6 (c : Dev nD) : (dats m 0 c).arrAt 6 cfg0.N = arr6 m c :=
  (dats m 0 c).arrAt_eq_of_cover 6 _ (fun t hf => flushed6 m c t hf) (fun i => by
    have hi0 : (i 0).val < 1 := (i 0).isLt
    have hi1 : (i 1).val < 1 := (i 1).isLt
    obtain ⟨e0, e1⟩ := idx6 ⟨15, h15⟩
    refine ⟨⟨15, h15⟩, (flush0_6 _).mpr rfl, ?_⟩
    rw [mem_blk6]
    intro a
    match a with
    | ⟨0, _⟩ => show win0_6.index ⟨15, h15⟩ (0 : Fin 2) * 1 ≤ (i 0).val ∧ (i 0).val < win0_6.index ⟨15, h15⟩ (0 : Fin 2) * 1 + 1; omega
    | ⟨1, _⟩ => show win0_6.index ⟨15, h15⟩ (1 : Fin 2) * 1 ≤ (i 1).val ∧ (i 1).val < win0_6.index ⟨15, h15⟩ (1 : Fin 2) * 1 + 1; omega)

/-- The array of output 7 after the run: one number. -/
def arr7 (c : Dev nD) : Buf (Elt F) ((c : Thread nD τ).loc main_v5_3) := k0_pay6 (cntN m c 15 h15)

theorem idx7 : ∀ t : Fin cfg0.N, win0_7.index t (0 : Fin 2) = 0 ∧ win0_7.index t (1 : Fin 2) = 0 :=
  (by decide +kernel : ∀ t : Fin grid0.N, _)

theorem flushed7 (c : Dev nD) (t : Fin cfg0.N) (hf : (cfg0.win 7).flush t = true) :
    (dats m 0 c).flushed 7 t = ((cfg0.win 7).blk t).view.read (Elt F) (arr7 m c) := by
  have hm : t.val % 16 = 15 := (flush0_7 t).mp hf
  have hN : t.val < 16 := lt_of_lt_of_eq t.isLt N_0
  obtain rfl : t = ⟨15, h15⟩ := Fin.ext (by show t.val = 15; omega)
  show (cfg0.win 7).cut (grid0.coords ⟨15, h15⟩) ((dats m 0 c).after 7 ⟨15, h15⟩) = _
  rw [after0_7, (outs_last m c).2]
  obtain ⟨e0, e1⟩ := idx7 ⟨15, h15⟩
  funext y
  have hb0 : (((cfg0.win 7).blk ⟨15, h15⟩).view.emb y 0).val = win0_7.index ⟨15, h15⟩ (0 : Fin 2) * 1 + 1 * (y 0).val := rfl
  have hb1 : (((cfg0.win 7).blk ⟨15, h15⟩).view.emb y 1).val = win0_7.index ⟨15, h15⟩ (1 : Fin 2) * 1 + 1 * (y 1).val := rfl
  have hl : ((cfg0.win 7).blk ⟨15, h15⟩).view.emb y = (cfg0.win 7).xinj (grid0.coords ⟨15, h15⟩) y := by
    funext a; apply Fin.ext
    match a with
    | ⟨0, _⟩ => show (((cfg0.win 7).blk ⟨15, h15⟩).view.emb y 0).val = (y 0).val; rw [hb0]; omega
    | ⟨1, _⟩ => show (((cfg0.win 7).blk ⟨15, h15⟩).view.emb y 1).val = (y 1).val; rw [hb1]; omega
  show (k0_pay6 (cntN m c 15 h15)) ((cfg0.win 7).xinj (grid0.coords ⟨15, h15⟩) y) = arr7 m c (((cfg0.win 7).blk ⟨15, h15⟩).view.emb y)
  rw [hl]
  rfl

theorem mem_blk7 (t : Fin cfg0.N) (i : S1x1.Idx) :
    i ∈ ((cfg0.win 7).blk t).view.set ↔ ∀ a : Fin 2, win0_7.index t a * S1x1.size a ≤ (i a).val ∧ (i a).val < win0_7.index t a * S1x1.size a + S1x1.size a := by
  show i ∈ ((View.whole main_v5_3).slice (win0_7.rect t)).set ↔ _
  rw [View.set_slice_whole, Rect.mem_set_unit]
  exact Iff.rfl

theorem final7 (c : Dev nD) : (dats m 0 c).arrAt 7 cfg0.N = arr7 m c :=
  (dats m 0 c).arrAt_eq_of_cover 7 _ (fun t hf => flushed7 m c t hf) (fun i => by
    have hi0 : (i 0).val < 1 := (i 0).isLt
    have hi1 : (i 1).val < 1 := (i 1).isLt
    obtain ⟨e0, e1⟩ := idx7 ⟨15, h15⟩
    refine ⟨⟨15, h15⟩, (flush0_7 _).mpr rfl, ?_⟩
    rw [mem_blk7]
    intro a
    match a with
    | ⟨0, _⟩ => show win0_7.index ⟨15, h15⟩ (0 : Fin 2) * 1 ≤ (i 0).val ∧ (i 0).val < win0_7.index ⟨15, h15⟩ (0 : Fin 2) * 1 + 1; omega
    | ⟨1, _⟩ => show win0_7.index ⟨15, h15⟩ (1 : Fin 2) * 1 ≤ (i 1).val ∧ (i 1).val < win0_7.index ⟨15, h15⟩ (1 : Fin 2) * 1 + 1; omega)

end Cert.KernelIdeal.Val
-- ==== Proof.KRun.lean ====
/- The kernel's run: what the host operations leave before the region, and the four results after it, each as a term of the
   two arguments. -/
module

public import proofs.«01_k».proof.Proof.Region

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable {F : FTy → Type} [FloatOps F] (m : (b : Loc nD τ sig) → Buf (Elt F) b)

/-! ## Before the region -/

/-- The rows of the input. -/
theorem V_v0 (c : Dev nD) : V m c main_v0 = shapeCast S4096x256 (m ((c : Thread nD τ).loc main_arg0)) shapeCasts_S4096x4x4x4x4_S4096x256 := by
  unfold V V0
  simp only [hostOps0, List.flatten_cons, List.flatten_nil, List.append_nil]
  after_results
  rfl

/-- The squared lengths of the codebook's rows, as one row. -/
theorem V_v3 (c : Dev nD) : V m c main_v3 = shapeCast S1x8192 (Host.reduceAdd (mulf (F := F) (φ := .f32) (m ((c : Thread nD τ).loc main_arg1)) (m ((c : Thread nD τ).loc main_arg1)))
    (constant S_ .f32 0x00000000#32) reducesTo_S8192x256_S8192_d1 h_S_) shapeCasts_S8192_S1x8192 := by
  unfold V V0
  simp only [hostOps0, List.flatten_cons, List.flatten_nil, List.append_nil]
  after_results
  rfl

/-- The column numbers. -/
theorem V_v4 (c : Dev nD) : V m c main_v4 = iotaInDim S1x8192 32 1 := by
  unfold V V0
  simp only [hostOps0, List.flatten_cons, List.flatten_nil, List.append_nil]
  after_results

/-! ## After the region -/

theorem arr_inj : Function.Injective (Pipeline.arrRef spec0) := by decide

theorem W_v6 (c : Dev nD) : Pipeline.afterTail₀ cfgs (dats m) 0 (V0 m) [hostOps1] c main_v6 = shapeCast S_ (arr6 m c) shapeCasts_S1x1_S_ := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v5_2)
    = arr6 m c from (Pipeline.withArrays_arr spec0 arr_inj c _ _ 6).trans (final6 m c)]
  rfl

theorem W_v7 (c : Dev nD) : Pipeline.afterTail₀ cfgs (dats m) 0 (V0 m) [hostOps1] c main_v7 = shapeCast S4096x4x4x4x4 (arr5 m c) shapeCasts_S4096x256_S4096x4x4x4x4 := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v5_1)
    = arr5 m c from (Pipeline.withArrays_arr spec0 arr_inj c _ _ 5).trans (final5 m c)]
  rfl

theorem W_v8 (c : Dev nD) : Pipeline.afterTail₀ cfgs (dats m) 0 (V0 m) [hostOps1] c main_v8 = shapeCast S_ (arr7 m c) shapeCasts_S1x1_S_ := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v5_3)
    = arr7 m c from (Pipeline.withArrays_arr spec0 arr_inj c _ _ 7).trans (final7 m c)]
  rfl

/-- Every weakly fair execution of the kernel terminates with its four results at these terms, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v6) = shapeCast S_ (arr6 m c) shapeCasts_S1x1_S_
      ∧ r.2.mem ((c.tc : Thread nD τ).loc main_v7) = shapeCast S4096x4x4x4x4 (arr5 m c) shapeCasts_S4096x256_S4096x4x4x4x4
      ∧ r.2.mem ((c.tc : Thread nD τ).loc main_v8) = shapeCast S_ (arr7 m c) shapeCasts_S1x1_S_
      ∧ r.2.mem ((c.tc : Thread nD τ).loc main_v5_0) = arr4 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (W_v6 m c),
       ((h c).2 main_v7 (Pipeline.mem_restRefs_of main_v7 (by decide) (by decide))).trans (W_v7 m c),
       ((h c).2 main_v8 (Pipeline.mem_restRefs_of main_v8 (by decide) (by decide))).trans (W_v8 m c),
       ((h c).1 4).trans (final4 m c),
       ((h c).2 main_arg0 (Pipeline.mem_restRefs_of main_arg0 (by decide) (by decide))).trans (W_main_arg0 m (dats m) c),
       (((h c).1 1).trans ((dats m 0 c).arrAt_in 1 rfl _)).trans (by rw [show (dats m 0 c).A 1 = V m c main_arg1 from A_eq m c 1]; exact V_main_arg1 m c)⟩)
    (run_main m ρ)

end Cert.KernelIdeal.Val

end
-- ==== Proof.Best.lean ====
/- The first place where a row of 8192 extended reals is smallest, and the two ways the programs find it: the least word among
   the places holding the row's minimum, and a left fold keeping the smaller of two (value, place) pairs. -/
module

public import Idealize.ShloMosaic.Lib.Pointwise
public import proofs.«01_k».proof.ReferenceIdeal

@[expose] public section

noncomputable section

namespace Cert.Best

open Idealize.ShloMosaic

/-- `k` is the first place where `D` is smallest. -/
def IsBest (D : Fin 8192 → EReal) (k : Fin 8192) : Prop := (∀ j, D k ≤ D j) ∧ ∀ j, D j = D k → k ≤ j

theorem exists_best (D : Fin 8192 → EReal) : ∃ k, IsBest D k := by
  obtain ⟨k0, -, h0⟩ := Finset.exists_min_image Finset.univ D ⟨0, Finset.mem_univ _⟩
  obtain ⟨k, hk, h1⟩ := Finset.exists_min_image (Finset.univ.filter fun j => D j = D k0) id ⟨k0, by simp⟩
  have hk' : D k = D k0 := (Finset.mem_filter.1 hk).2
  exact ⟨k, fun j => hk' ▸ h0 j (Finset.mem_univ _), fun j hj => h1 j (by simp [hj, hk'])⟩

/-- That place, as a function of the row. -/
def best (D : Fin 8192 → EReal) : Fin 8192 := (exists_best D).choose

theorem best_spec (D : Fin 8192 → EReal) : IsBest D (best D) := (exists_best D).choose_spec

/-- The word of a place. -/
abbrev word (k : Fin 8192) : BitVec 32 := BitVec.ofNat 32 k.val

theorem word_toInt (k : Fin 8192) : (word k).toInt = (k.val : Int) := by
  have h := k.isLt
  rw [BitVec.toInt_eq_toNat_of_lt (by rw [BitVec.toNat_ofNat]; omega), BitVec.toNat_ofNat]
  omega

theorem word_inj {k j : Fin 8192} (h : word k = word j) : k = j := by
  have := congrArg BitVec.toInt h
  rw [word_toInt, word_toInt] at this
  exact Fin.ext (by exact_mod_cast this)

/-! ## The least word among the places of the minimum -/

/-- The row's minimum is its value at the best place. -/
theorem fold_min_eq (D : Fin 8192 → EReal) : Finset.fold min (⊤ : EReal) D Finset.univ = D (best D) := by
  apply le_antisymm
  · exact (Finset.fold_min_le _).2 (Or.inr ⟨best D, Finset.mem_univ _, le_rfl⟩)
  · exact (Finset.le_fold_min _).2 ⟨le_top, fun x _ => (best_spec D).1 x⟩

theorem minsi_toInt (a b : BitVec 32) : (IntOp.minsi a b).toInt = min a.toInt b.toInt := by
  unfold IntOp.minsi
  rw [BitVec.slt_eq_decide]
  by_cases h : a.toInt < b.toInt
  · simp [h, le_of_lt h]
  · simp [h, not_lt.1 h]

theorem fold_minsi_eq (D : Fin 8192 → EReal) :
    Finset.fold IntOp.minsi (2147483647#32) (fun k => if D k = D (best D) then word k else 8192#32) Finset.univ = word (best D) := by
  apply BitVec.eq_of_toInt_eq
  rw [← Finset.fold_hom (op' := min) (m := BitVec.toInt) minsi_toInt, word_toInt]
  apply le_antisymm
  · refine (Finset.fold_min_le _).2 (Or.inr ⟨best D, Finset.mem_univ _, ?_⟩)
    rw [if_pos rfl, word_toInt]
  · refine (Finset.le_fold_min _).2 ⟨?_, fun k _ => ?_⟩
    · have h := (best D).isLt
      have e : (2147483647#32 : BitVec 32).toInt = 2147483647 := by decide
      omega
    · split
      · next h =>
        rw [word_toInt]
        exact_mod_cast (best_spec D).2 k h
      · have h := (best D).isLt
        have e : (8192#32 : BitVec 32).toInt = 8192 := by decide
        omega

/-! ## The fold over pairs -/

/-- The smaller of two pairs, by value and then by place read signed. -/
def lex (a b : EReal × BitVec 32) : EReal × BitVec 32 :=
  (if a.1 < b.1 then a.1 else b.1, if a.1 < b.1 ∨ (a.1 = b.1 ∧ a.2.toInt < b.2.toInt) then a.2 else b.2)

/-- No pair smaller than `p`. -/
def Le (p q : EReal × BitVec 32) : Prop := p.1 < q.1 ∨ (p.1 = q.1 ∧ p.2.toInt ≤ q.2.toInt)

theorem lex_mem (a b : EReal × BitVec 32) : lex a b = a ∨ lex a b = b := by
  unfold lex
  by_cases h : a.1 < b.1
  · left; simp [h]
  · by_cases h' : a.1 = b.1 ∧ a.2.toInt < b.2.toInt
    · left
      simp only [if_neg h, if_pos (Or.inr h' : a.1 < b.1 ∨ a.1 = b.1 ∧ a.2.toInt < b.2.toInt)]
      rw [← h'.1]
    · right
      simp only [if_neg h, if_neg (not_or.2 ⟨h, h'⟩)]

theorem lex_left {a b : EReal × BitVec 32} (h : Le a b) : lex a b = a := by
  unfold lex
  rcases h with h | ⟨h, h'⟩
  · simp [h]
  · rcases lt_or_eq_of_le h' with h2 | h2
    · simp only [if_neg (not_lt.2 (le_of_eq h.symm)), if_pos (Or.inr ⟨h, h2⟩ : a.1 < b.1 ∨ a.1 = b.1 ∧ a.2.toInt < b.2.toInt)]
      rw [← h]
    · simp only [if_neg (not_lt.2 (le_of_eq h.symm)), ← BitVec.eq_of_toInt_eq h2, ite_self]
      rw [← h]

theorem lex_right {a b : EReal × BitVec 32} (h : Le b a) : lex a b = b := by
  unfold lex
  rcases h with h | ⟨h, h'⟩
  · simp [not_lt.2 (le_of_lt h), ne_of_gt h]
  · simp [not_lt.2 (le_of_eq h), not_lt.2 h']

/-- A fold keeping the smaller pair ends at the smallest. -/
theorem foldl_lex (p : EReal × BitVec 32) : ∀ (L : List (EReal × BitVec 32)) (i : EReal × BitVec 32),
    Le p i → (∀ q ∈ L, Le p q) → (i = p ∨ p ∈ L) → L.foldl lex i = p
  | [], i, _, _, h => by rcases h with h | h; exacts [h, absurd h List.not_mem_nil]
  | b :: L, i, hi, hL, h => by
    have hb : Le p b := hL b (List.mem_cons_self ..)
    refine foldl_lex p L _ ?_ (fun q hq => hL q (List.mem_cons_of_mem _ hq)) ?_
    · rcases lex_mem i b with e | e <;> rw [e] <;> assumption
    · rcases h with rfl | h
      · exact Or.inl (lex_left hb)
      · rcases List.mem_cons.1 h with rfl | h
        · exact Or.inl (lex_right hi)
        · exact Or.inr h

/-- The printed combine is that fold's step. -/
theorem reducer_eq : (Cert.ReferenceIdeal.reducer_argmin_f32_i32 (F := Ideal) : _ → _ → _) = lex := by
  funext a b
  obtain ⟨a1, a2⟩ := a
  obtain ⟨b1, b2⟩ := b
  unfold Cert.ReferenceIdeal.reducer_argmin_f32_i32 lex
  have hu : FloatOps.cmpf (F := Ideal) (φ := .f32) .une a1 a1 = 0#1 := by simp [Ideal.cmpf_def, Ideal.cmp]
  simp only [hu]
  by_cases h : (a1 : EReal) < b1
  · simp [Ideal.cmpf_def, Ideal.cmp, h, ne_of_lt h, IntOp.ori, IntOp.andi, Scalar.select]
  · by_cases h' : (a1 : EReal) = b1
    · by_cases h2 : a2.toInt < b2.toInt
      · simp [Ideal.cmpf_def, Ideal.cmp, h', h2, IntOp.ori, IntOp.andi, Scalar.select, IntOp.cmpi, BitVec.slt_eq_decide]
      · simp [Ideal.cmpf_def, Ideal.cmp, h', h2, IntOp.ori, IntOp.andi, Scalar.select, IntOp.cmpi, BitVec.slt_eq_decide]
    · simp [Ideal.cmpf_def, Ideal.cmp, h, h', IntOp.ori, IntOp.andi, Scalar.select]

theorem le_best (D : Fin 8192 → EReal) (k : Fin 8192) : Le (D (best D), word (best D)) (D k, word k) := by
  rcases lt_or_eq_of_le ((best_spec D).1 k) with h | h
  · exact Or.inl h
  · refine Or.inr ⟨h, ?_⟩
    show (word _).toInt ≤ (word k).toInt
    rw [word_toInt, word_toInt]
    exact_mod_cast (best_spec D).2 k h.symm

theorem le_best_top (D : Fin 8192 → EReal) : Le (D (best D), word (best D)) ((⊤ : EReal), 0#32) := by
  rcases lt_or_eq_of_le (le_top : D (best D) ≤ ⊤) with h | h
  · exact Or.inl h
  · refine Or.inr ⟨h, ?_⟩
    have h0 : D 0 = D (best D) := le_antisymm (h ▸ le_top) ((best_spec D).1 0)
    have := (best_spec D).2 0 h0
    have e : best D = 0 := le_antisymm this (Fin.zero_le _)
    rw [e]
    exact (by decide : (word 0).toInt ≤ (0#32 : BitVec 32).toInt)

end Cert.Best

end
-- ==== Proof.RefArg.lean ====
/- The reference's terms read at an index, on extended reals: the distances as sums, each row's arg-min as the first place of the
   smallest distance, and the scattered one-hot matrix as ones at those places. -/
module

public import proofs.«01_k».proof.Proof.RefRun
public import proofs.«01_k».proof.Proof.Best

@[expose] public section

set_option maxRecDepth 16384

noncomputable section

namespace Cert.ReferenceIdeal.Val

open Cert.ReferenceIdeal Cert.ReferenceIdeal.Gen Idealize.ShloMosaic Cert.Best

theorem ofBits_two : Ideal.ofBits .f32 0x40000000#32 = (2 : EReal) := by
  simp [Ideal.ofBits, Ideal.ieee, -EReal.coe_mul]
  norm_num
  rfl

theorem ofBits_inf : Ideal.ofBits .f32 0x7F800000#32 = (⊤ : EReal) := by
  simp [Ideal.ofBits, Ideal.ieee]

/-- The squared distance of input row `n` and codebook row `k`, expanded. -/
abbrev dst (x : Vec Ideal S4096x256 .f32) (w : Vec Ideal S8192x256 .f32) (n : Fin 4096) (k : Fin 8192) : EReal :=
  ∑ d : Fin 256, x (ix2 n d) * x (ix2 n d) + ∑ d : Fin 256, w (ix2 k d) * w (ix2 k d) - 2 * ∑ d : Fin 256, x (ix2 n d) * w (ix2 k d)

theorem dist_at (x : Vec Ideal S4096x256 .f32) (w : Vec Ideal S8192x256 .f32) (n : Fin 4096) (k : Fin 8192) :
    Val.dist x w (ix2 n k) = dst x w n k := by
  pointwise [Cert.ReferenceIdeal.Val.dist]
  rw [ofBits_two]

/-! ## The arg-min -/

theorem mem_fiber {s t : Shape} {axes : List (Fin s.rank)} {α β : Type} (x : s.Idx → α) (y : s.Idx → β) (h : s.ReducesTo axes t)
    (j : t.Idx) (q : α × β) : q ∈ Host.argReduceFiber x y h j ↔ ∃ i, h.drop i = j ∧ q = (x i, y i) := by
  unfold Host.argReduceFiber
  simp only [List.mem_map, List.mem_filter, List.mem_finRange, true_and, decide_eq_true_eq]
  constructor
  · rintro ⟨i, hi, rfl⟩
    exact ⟨_, hi, rfl⟩
  · rintro ⟨i, hi, rfl⟩
    exact ⟨s.rowMajor i, by rw [Equiv.symm_apply_apply]; exact hi, by rw [Equiv.symm_apply_apply]⟩

theorem mem_row (d : Vec Ideal S4096x8192 .f32) (n : Fin 4096) (q : EReal × BitVec 32) :
    q ∈ Host.argReduceFiber (α := EReal) d (iotaInDim S4096x8192 32 1) reducesTo_S4096x8192_S4096_d1 (ix1 n)
      ↔ ∃ k : Fin 8192, q = (d (ix2 n k), word k) := by
  rw [mem_fiber]
  constructor
  · rintro ⟨i, hi, rfl⟩
    obtain ⟨k, hk⟩ := (Shape.ReducesTo.fiber_r2_a1 reducesTo_S4096x8192_S4096_d1 (ix1 n) i).1 hi
    exact ⟨k, by rw [← hk]; rfl⟩
  · rintro ⟨k, rfl⟩
    exact ⟨ix2 n k, (Shape.ReducesTo.fiber_r2_a1 reducesTo_S4096x8192_S4096_d1 (ix1 n) (ix2 n k)).2 ⟨k, rfl⟩, rfl⟩

theorem fold_row (d : Vec Ideal S4096x8192 .f32) (n : Fin 4096) (L : List (EReal × BitVec 32))
    (hL : ∀ q, q ∈ L ↔ ∃ k : Fin 8192, q = (d (ix2 n k), word k)) :
    L.foldl lex (⊤, 0#32) = (d (ix2 n (best fun k => d (ix2 n k))), word (best fun k => d (ix2 n k))) :=
  foldl_lex _ L _ (le_best_top fun k => d (ix2 n k))
    (fun q hq => by
      obtain ⟨k, rfl⟩ := (hL q).1 hq
      exact le_best (fun k => d (ix2 n k)) k)
    (Or.inr ((hL _).2 ⟨_, rfl⟩))

/-- The pair the arg-min's fold ends at. -/
theorem argReduce_at (d : Vec Ideal S4096x8192 .f32) (n : Fin 4096) :
    Host.argReduce (reducer_argmin_f32_i32 (F := Ideal)) d (iotaInDim S4096x8192 32 1) (constant S_ .f32 0x7F800000#32) (constantI S_ 32 0#32)
      reducesTo_S4096x8192_S4096_d1 h_S_ (ix1 n) = (d (ix2 n (best fun k => d (ix2 n k))), word (best fun k => d (ix2 n k))) := by
  have hi : constant (F := Ideal) S_ .f32 0x7F800000#32 (Shape.Idx.first h_S_) = (⊤ : EReal) := ofBits_inf
  have hj : constantI S_ 32 0#32 (Shape.Idx.first h_S_) = 0#32 := rfl
  refine (congrFun (Ideal.argReduce_eq_reduce2 _ _ _ _ _ _ _) (ix1 n)).trans ((Host.reduce2_eq_foldl_fiber _ _ _ _ _ _ _ _).trans ?_)
  rw [reducer_eq, hi, hj]
  exact fold_row d n _ (mem_row d n)

theorem snd_at {ι α β : Type} (f : ι → α × β) (g : ι → β) (hg : g = fun j => (f j).2) (j : ι) (p : α × β) (h : f j = p) : g j = p.2 := by
  rw [hg, ← h]

theorem argmin_at (d : Vec Ideal S4096x8192 .f32) (n : Fin 4096) : argmin d (ix1 n) = word (best fun k => d (ix2 n k)) :=
  snd_at (Host.argReduce (reducer_argmin_f32_i32 (F := Ideal)) d (iotaInDim S4096x8192 32 1) (constant S_ .f32 0x7F800000#32) (constantI S_ 32 0#32)
      reducesTo_S4096x8192_S4096_d1 h_S_) (argmin d) rfl (ix1 n) _ (argReduce_at d n)

end Cert.ReferenceIdeal.Val

end
-- ==== Proof.RefVal.lean ====
/- The reference's terms read at an index, on extended reals: the distances as sums, each row's arg-min as the first place of the
   smallest distance, and the scattered one-hot matrix as ones at those places. -/
module

public import proofs.«01_k».proof.Proof.RefArg
public import Idealize.ShloMosaic.Lib.Routing.OpsPair

@[expose] public section

set_option maxRecDepth 16384

noncomputable section

namespace Cert.ReferenceIdeal.Val

open Cert.ReferenceIdeal Cert.ReferenceIdeal.Gen Idealize.ShloMosaic Cert.Best

/-! ## The one-hot matrix -/

theorem wrap_word {n : BitVec 32} (a : IVec S4096 32) (j : S4096.Idx) (h : 0 ≤ (a j).toInt) : wrap a n j = a j := by
  unfold wrap
  show Scalar.select (IntOp.cmpi .slt (a j) 0#32) _ (a j) = a j
  have : IntOp.cmpi .slt (a j) 0#32 = 0#1 := by
    have e : (0#32 : BitVec 32).toInt = 0 := by decide
    simp [IntOp.cmpi, BitVec.slt_eq_decide, not_lt.2 h]
  rw [this]
  rfl

theorem foldl_set {α : Type} (P : α → Prop) [DecidablePred P] (c : EReal) : ∀ (L : List α) (x : EReal),
    ((∃ n ∈ L, P n) → L.foldl (fun a n => if P n then c else a) x = c) ∧ ((¬∃ n ∈ L, P n) → L.foldl (fun a n => if P n then c else a) x = x)
  | [], x => by simp
  | b :: L, x => by
    rw [List.foldl_cons]
    constructor
    · rintro ⟨n, hn, hp⟩
      by_cases h : ∃ n ∈ L, P n
      · exact (foldl_set P c L _).1 h
      · rcases List.mem_cons.1 hn with rfl | hn
        · rw [(foldl_set P c L _).2 h, if_pos hp]
        · exact absurd ⟨n, hn, hp⟩ h
    · intro h
      rw [if_neg fun hb => h ⟨b, List.mem_cons_self .., hb⟩]
      exact (foldl_set P c L _).2 fun ⟨n, hn, hp⟩ => h ⟨n, List.mem_cons_of_mem _ hn, hp⟩

/-- A scatter that sets one value `c` everywhere it lands: `c` where some update lands. -/
theorem scatter_set {s si u : Shape} (d : ScatterDims s si u) (x0 : s.Idx → EReal) (idx : IVec si 32) (upd : u.Idx → EReal) (c : EReal)
    (hc : ∀ j, upd j = c) (ι : s.Idx) :
    ((∃ j, d.resultIdx? j idx = some ι) → Host.scatter d (fun _ b => b) x0 idx upd ι = c)
      ∧ ((¬∃ j, d.resultIdx? j idx = some ι) → Host.scatter d (fun _ b => b) x0 idx upd ι = x0 ι) := by
  rw [Routing.scatter_at]
  simp only [hc]
  have h := foldl_set (fun n => d.resultIdx? (u.rowMajor.symm n) idx = some ι) c (List.finRange u.numel) (x0 ι)
  refine ⟨fun ⟨j, hj⟩ => h.1 ⟨u.rowMajor j, List.mem_finRange _, by rw [Equiv.symm_apply_apply]; exact hj⟩, fun hn => h.2 ?_⟩
  rintro ⟨n, -, hp⟩
  exact hn ⟨_, hp⟩

/-- Update `n'` lands at the row and column its two words name. -/
theorem lands (idx : IVec S4096x2 32) (n' n : Fin 4096) (k : Fin 8192) :
    scatter_S4096x8192_S4096x2_S4096_n_01_01_1.resultIdx? (ix1 n') idx = some (ix2 n k)
      ↔ (idx (ix2 n' 0)).toInt = n.val ∧ (idx (ix2 n' 1)).toInt = k.val := by
  have hs : ∀ q : Fin 2, scatter_S4096x8192_S4096x2_S4096_n_01_01_1.start (ix1 n') idx q = (idx (ix2 n' q)).toInt := by
    intro q
    unfold ScatterDims.start
    rw [dif_pos (show q ∈ scatter_S4096x8192_S4096x2_S4096_n_01_01_1.scatterDimsToOperandDims from
      (show q ∈ ([0, 1] : List (Fin 2)) by fin_cases q <;> simp))]
    refine congrArg (fun i => (idx i).toInt) ?_
    funext b
    apply Fin.ext
    fin_cases q <;> fin_cases b <;> rfl
  have hw : ∀ q : Fin 2, scatter_S4096x8192_S4096x2_S4096_n_01_01_1.window (ix1 n') q = 0 := by
    intro q
    unfold ScatterDims.window
    rw [dif_neg]
    intro h
    exact (of_decide_eq_true (List.mem_filter.1 h).2) (show q ∈ ([0, 1] : List (Fin 2)) by fin_cases q <;> simp)
  rw [Routing.resultIdx?_eq_some]
  constructor
  · intro h
    have h0 := h (0 : Fin 2)
    have h1 := h (1 : Fin 2)
    rw [hs, hw] at h0 h1
    simpa using And.intro h0 h1
  · rintro ⟨h0, h1⟩ a
    rw [hs, hw]
    fin_cases a
    · simpa using h0
    · simpa using h1

theorem onehot_at (a : IVec S4096 32) (b : Fin 4096 → Fin 8192) (ha : ∀ n, a (ix1 n) = word (b n)) (n : Fin 4096) (k : Fin 8192) :
    onehot (F := Ideal) a (ix2 n k) = if k = b n then 1 else 0 := by
  unfold onehot
  have hp0 : ∀ n' : Fin 4096, (pairs (F := Ideal) (broadcastInDim S4096x1 ![0] bcast_S4096_S4096x1_0 (wrap (iotaInDim S4096 32 0) 4096#32))
      (broadcastInDim S4096x1 ![0] bcast_S4096_S4096x1_0 (wrap a 8192#32)) (ix2 n' 0)).toInt = n'.val := by
    intro n'
    have hn := n'.isLt
    have hi : (iotaInDim S4096 32 0 (ix1 n')).toInt = n'.val := by
      show (BitVec.ofNat 32 n'.val).toInt = _
      rw [BitVec.toInt_eq_toNat_of_lt (by rw [BitVec.toNat_ofNat]; omega), BitVec.toNat_ofNat]
      omega
    have e : pairs (F := Ideal) (broadcastInDim S4096x1 ![0] bcast_S4096_S4096x1_0 (wrap (iotaInDim S4096 32 0) 4096#32))
      (broadcastInDim S4096x1 ![0] bcast_S4096_S4096x1_0 (wrap a 8192#32)) (ix2 n' 0) = wrap (iotaInDim S4096 32 0) 4096#32 (ix1 n') := by
      unfold pairs
      pointwise
    rw [e, wrap_word _ _ (by rw [hi]; omega), hi]
  have hp1 : ∀ n' : Fin 4096, (pairs (F := Ideal) (broadcastInDim S4096x1 ![0] bcast_S4096_S4096x1_0 (wrap (iotaInDim S4096 32 0) 4096#32))
      (broadcastInDim S4096x1 ![0] bcast_S4096_S4096x1_0 (wrap a 8192#32)) (ix2 n' 1)).toInt = (b n').val := by
    intro n'
    have e : pairs (F := Ideal) (broadcastInDim S4096x1 ![0] bcast_S4096_S4096x1_0 (wrap (iotaInDim S4096 32 0) 4096#32))
      (broadcastInDim S4096x1 ![0] bcast_S4096_S4096x1_0 (wrap a 8192#32)) (ix2 n' 1) = wrap a 8192#32 (ix1 n') := by
      unfold pairs
      pointwise
    rw [e, wrap_word _ _ (by rw [ha, word_toInt]; omega), ha, word_toInt]
  generalize pairs (F := Ideal) (broadcastInDim S4096x1 ![0] bcast_S4096_S4096x1_0 (wrap (iotaInDim S4096 32 0) 4096#32))
      (broadcastInDim S4096x1 ![0] bcast_S4096_S4096x1_0 (wrap a 8192#32)) = idx at hp0 hp1 ⊢
  have hs := scatter_set scatter_S4096x8192_S4096x2_S4096_n_01_01_1
    (broadcastInDim S4096x8192 ![] bcast_S_S4096x8192 (constant (F := Ideal) S_ .f32 0x00000000#32)) idx
    (broadcastInDim S4096 ![] bcast_S_S4096 (constant (F := Ideal) S_ .f32 0x3F800000#32)) 1 (fun j => Ideal.ofBits_one_f32) (ix2 n k)
  by_cases h : k = b n
  · rw [if_pos h]
    exact hs.1 ⟨ix1 n, by rw [lands, hp0, hp1, h]; exact ⟨rfl, rfl⟩⟩
  · rw [if_neg h]
    refine (hs.2 ?_).trans Ideal.ofBits_zero_f32
    rintro ⟨j, hj⟩
    obtain ⟨n', rfl⟩ : ∃ n' : Fin 4096, j = ix1 n' := ⟨j 0, eq_ix1 j⟩
    rw [lands, hp0, hp1] at hj
    have e : n' = n := Fin.ext (by exact_mod_cast hj.1)
    have h2 := hj.2
    rw [e] at h2
    exact h (Fin.ext (by exact_mod_cast h2.symm))

/-- The row numbers the arg-min finds. -/
abbrev pick (x : Vec Ideal S4096x256 .f32) (w : Vec Ideal S8192x256 .f32) (n : Fin 4096) : Fin 8192 := best fun k => dst x w n k

/-- The reference's one-hot result at an index. -/
theorem resEnc_at (x : Vec Ideal S4096x4x4x4x4 .f32) (w : Vec Ideal S8192x256 .f32) (n : Fin 4096) (k : Fin 8192) :
    resEnc x w (ix2 n k) = if k = pick (shapeCast S4096x256 x shapeCasts_S4096x4x4x4x4_S4096x256) w n then 1 else 0 := by
  unfold resEnc
  refine onehot_at _ (pick (shapeCast S4096x256 x shapeCasts_S4096x4x4x4x4_S4096x256) w) (fun n => ?_) n k
  rw [argmin_at]
  exact congrArg (fun f => word (best f)) (funext fun k => dist_at _ _ _ _)

end Cert.ReferenceIdeal.Val

end
-- ==== Proof.Sums.lean ====
/- Sums of extended reals regrouped: over the rows by block, over a block's rows by eights, and a doubled factor taken out. -/
module

public import Idealize.ShloMosaic.Lib.Pointwise

@[expose] public section

noncomputable section

namespace Cert.Sums

/-- Row `r` of block `i`, of 256 rows each. -/
def rowN (i : ℕ) (r : Fin 256) : Fin 4096 := ⟨(i * 256 + r.val) % 4096, Nat.mod_lt _ (by decide)⟩

/-- Row `a` of the `x`-th eight of a block. -/
def eight (x : Fin 32) (a : Fin 8) : Fin 256 := ⟨x.val * 8 + a.val, by omega⟩

theorem sum_fin {a b c : ℕ} (h : a * b = c) (f : Fin c → EReal) (g : Fin a → Fin b → Fin c)
    (hg : ∀ i r, (g i r).val = i.val * b + r.val) : ∑ i : Fin a, ∑ r : Fin b, f (g i r) = ∑ n : Fin c, f n := by
  subst h
  rw [← Fintype.sum_prod_type']
  refine Fintype.sum_equiv finProdFinEquiv _ _ fun p => congrArg f (Fin.ext ?_)
  rw [hg, finProdFinEquiv_apply_val]
  rw [Nat.mul_comm, Nat.add_comm]

/-- The rows of the sixteen blocks are the rows. -/
theorem sum_rows (f : Fin 4096 → EReal) : ∑ i ∈ Finset.range 16, ∑ r : Fin 256, f (rowN i r) = ∑ n : Fin 4096, f n := by
  rw [Finset.sum_range]
  refine sum_fin (by norm_num) f (fun i r => rowN i.val r) fun i r => ?_
  show (i.val * 256 + r.val) % 4096 = _
  omega

/-- The same with each block's rows taken by eights, the place in the eight outermost. -/
theorem sum_eights (f : Fin 4096 → EReal) :
    ∑ a : Fin 8, ∑ i ∈ Finset.range 16, ∑ x : Fin 32, f (rowN i (eight x a)) = ∑ n : Fin 4096, f n := by
  rw [Finset.sum_comm, ← sum_rows f]
  refine Finset.sum_congr rfl fun i _ => ?_
  rw [Finset.sum_comm]
  exact sum_fin (by norm_num) (fun r => f (rowN i r)) (fun x a => eight x a) fun x a => rfl

/-- A doubled factor comes out of a sum. -/
theorem two_sum {ι : Type} (s : Finset ι) (f g : ι → EReal) : ∑ i ∈ s, (f i + f i) * g i = 2 * ∑ i ∈ s, f i * g i := by
  have h1 : ∀ a : EReal, a + a = 2 * a := fun a => by
    have := EReal.right_distrib_of_nonneg (a := 1) (b := 1) (c := a) zero_le_one zero_le_one
    rw [one_mul, one_add_one_eq_two] at this
    exact this.symm
  have h2 : ∀ a b : EReal, 2 * (a + b) = 2 * a + 2 * b :=
    EReal.left_distrib_of_nonneg_of_ne_top (by norm_num) (EReal.coe_ne_top 2)
  induction s using Finset.cons_induction with
  | empty => simp
  | cons i s hi ih => rw [Finset.sum_cons, Finset.sum_cons, ih, h2, h1, mul_assoc]

end Cert.Sums

end
-- ==== Proof.KVal.lean ====
/- What the kernel's four output arrays hold, on extended reals, in the reference's terms: a point's blocks read at an index, and
   the two carried sums as sums over the rows of the points so far. -/
module

public import proofs.«01_k».proof.Proof.KRun
public import proofs.«01_k».proof.Proof.RefVal
public import proofs.«01_k».proof.Proof.Sums

@[expose] public section

set_option maxRecDepth 16384

noncomputable section

namespace Cert.KernelIdeal.Val

open Cert.KernelIdeal Cert.KernelIdeal.Gen Idealize.ShloMosaic Idealize.ShloMosaic.TcCoe Idealize.SL.Sem
open Cert.Best Cert.Sums
open Cert.ReferenceIdeal.Val (dst pick)

/-! ## A point's stored values at an index -/

section Payloads

variable (x0 : Vec Ideal S256x256 .f32) (x1 : Vec Ideal S8192x256 .f32) (x2 : Vec Ideal S1x8192 .f32) (x3 : Vec Ideal S1x8192 .i32)

/-- The distances the kernel compares, the product's factor two taken as a sum. -/
abbrev dstB (r : Fin 256) (k : Fin 8192) : EReal :=
  ∑ d : Fin 256, x0 (ix2 r d) * x0 (ix2 r d) + x2 (ix2 0 k) - ∑ d : Fin 256, (x0 (ix2 r d) + x0 (ix2 r d)) * x1 (ix2 k d)

theorem onehot_word (k j : Fin 8192) :
    FloatOps.sitofp (F := Ideal) FTy.f32 (BitVec.setWidth 32 (IntOp.cmpi CmpIPredicate.eq (word k) (word j))) = (if k = j then (1 : EReal) else 0) := by
  by_cases h : k = j
  · subst h
    rw [if_pos rfl]
    show (((BitVec.setWidth 32 (BitVec.ofBool (word k == word k))).toInt : ℝ) : EReal) = 1
    have e : (BitVec.setWidth 32 (BitVec.ofBool true)).toInt = 1 := by decide
    rw [beq_self_eq_true, e]
    norm_num
  · have hw : (word k == word j) = false := beq_eq_false_iff_ne.mpr fun e => h (word_inj e)
    rw [if_neg h]
    show (((BitVec.setWidth 32 (BitVec.ofBool (word k == word j))).toInt : ℝ) : EReal) = 0
    rw [hw]
    norm_num

theorem encB_at (h3 : ∀ k, x3 (ix2 0 k) = word k) (r : Fin 256) (k : Fin 8192) :
    encB x0 x1 x2 x3 (ix2 r k) = if k = best (dstB x0 x1 x2 r) then 1 else 0 := by
  pointwise [encB, k0_pay10, k0_pay9]
  simp only [h3, Cert.ReferenceIdeal.Val.ofBits_inf]
  rw [fold_min_eq (dstB x0 x1 x2 r), fold_minsi_eq (dstB x0 x1 x2 r)]
  exact onehot_word _ _

theorem qstB_at (r d : Fin 256) :
    qstB x0 x1 x2 x3 (ix2 r d) = x0 (ix2 r d) + (∑ k : Fin 8192, encB x0 x1 x2 x3 (ix2 r k) * x1 (ix2 k d) - x0 (ix2 r d)) := by
  unfold qstB
  generalize encB x0 x1 x2 x3 = e
  pointwise [k0_pay3, k0_pay2, k0_pay9]

theorem accB_at (s : Vec Ideal S1x1 .f32) :
    accB x0 x1 x2 x3 s (ix2 0 0) = s (ix2 0 0) + ∑ r : Fin 256, ∑ d : Fin 256,
      (∑ k : Fin 8192, encB x0 x1 x2 x3 (ix2 r k) * x1 (ix2 k d) - x0 (ix2 r d)) * (∑ k : Fin 8192, encB x0 x1 x2 x3 (ix2 r k) * x1 (ix2 k d) - x0 (ix2 r d)) := by
  unfold accB
  generalize encB x0 x1 x2 x3 = e
  pointwise [k0_pay4, k0_pay2, k0_pay9]

theorem cntB_at (s : Vec Ideal S8x8192 .f32) (a : Fin 8) (k : Fin 8192) :
    cntB x0 x1 x2 x3 s (ix2 a k) = s (ix2 a k) + ∑ x : Fin 32, encB x0 x1 x2 x3 (ix2 (eight x a) k) := by
  unfold cntB k0_pay11
  show k0_pay1 s (shapeCast S32x8x8192 (encB x0 x1 x2 x3) shapeCasts_S256x8192_S32x8x8192) (ix2 a k) = _
  generalize encB x0 x1 x2 x3 = e
  pointwise [k0_pay1]
  rfl

end Payloads

/-! ## The blocks a point loads -/

variable (m : (b : Loc nD τ sig) → Buf (Elt Ideal) b) (c : Dev nD)

/-- The input's rows and the codebook, as launched. -/
abbrev rows : Vec Ideal S4096x256 .f32 := shapeCast S4096x256 (m ((c : Thread nD τ).loc main_arg0)) shapeCasts_S4096x4x4x4x4_S4096x256
abbrev book : Vec Ideal S8192x256 .f32 := m ((c : Thread nD τ).loc main_arg1)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

theorem iblk0_at (t : Fin cfg0.N) (r d : Fin 256) : (iblk m c 0 t : Vec Ideal S256x256 .f32) (ix2 r d) = rows m c (ix2 (rowN t.val r) d) := by
  have hN : t.val < 16 := lt_of_lt_of_eq t.isLt N_0
  have hr := r.isLt
  obtain ⟨e0, e1⟩ := idx0 t
  show V m c main_v0 (((cfg0.win 0).blk t).view.emb (ix2 r d)) = _
  rw [V_v0]
  refine congrArg _ (funext fun a => Fin.ext ?_)
  match a with
  | ⟨0, _⟩ =>
    show win0_0.index t (0 : Fin 2) * 256 + 1 * r.val = (t.val * 256 + r.val) % 4096
    omega
  | ⟨1, _⟩ =>
    show win0_0.index t (1 : Fin 2) * 256 + 1 * d.val = d.val
    omega

theorem iblk1_at (t : Fin cfg0.N) (k : Fin 8192) (d : Fin 256) : (iblk m c 1 t : Vec Ideal S8192x256 .f32) (ix2 k d) = book m c (ix2 k d) := by
  obtain ⟨e0, e1⟩ := idx1 t
  show V m c main_arg1 (((cfg0.win 1).blk t).view.emb (ix2 k d)) = _
  rw [V_main_arg1]
  refine congrArg (book m c) (funext fun a => Fin.ext ?_)
  match a with
  | ⟨0, _⟩ =>
    show win0_1.index t (0 : Fin 2) * 8192 + 1 * k.val = k.val
    omega
  | ⟨1, _⟩ =>
    show win0_1.index t (1 : Fin 2) * 256 + 1 * d.val = d.val
    omega

theorem iblk2_at (t : Fin cfg0.N) (k : Fin 8192) :
    (iblk m c 2 t : Vec Ideal S1x8192 .f32) (ix2 0 k) = ∑ d : Fin 256, book m c (ix2 k d) * book m c (ix2 k d) := by
  obtain ⟨e0, e1⟩ := idx2 t
  show V m c main_v3 (((cfg0.win 2).blk t).view.emb (ix2 0 k)) = _
  have e : ((cfg0.win 2).blk t).view.emb (ix2 0 k) = (ix2 0 k : S1x8192.Idx) := funext fun a => Fin.ext (by
    match a with
    | ⟨0, _⟩ =>
      show win0_2.index t (0 : Fin 2) * 1 + 1 * 0 = 0
      omega
    | ⟨1, _⟩ =>
      show win0_2.index t (1 : Fin 2) * 8192 + 1 * k.val = k.val
      omega)
  rw [V_v3, e]
  show shapeCast S1x8192 (Host.reduceAdd (F := Ideal) (mulf (F := Ideal) (φ := .f32) (book m c) (book m c)) (constant S_ .f32 0x00000000#32) reducesTo_S8192x256_S8192_d1 h_S_)
    shapeCasts_S8192_S1x8192 (ix2 0 k) = ∑ d : Fin 256, book m c (ix2 k d) * book m c (ix2 k d)
  pointwise

theorem iblk3_at (t : Fin cfg0.N) (k : Fin 8192) : (iblk m c 3 t : Vec Ideal S1x8192 .i32) (ix2 0 k) = word k := by
  obtain ⟨e0, e1⟩ := idx3 t
  show V m c main_v4 (((cfg0.win 3).blk t).view.emb (ix2 0 k)) = _
  rw [V_v4]
  show BitVec.ofNat 32 (win0_3.index t (1 : Fin 2) * 8192 + 1 * k.val) = BitVec.ofNat 32 k.val
  rw [e1, Nat.zero_mul, Nat.zero_add, Nat.one_mul]

/-! ## The results in the reference's terms -/

/-- The one-hot matrix, the chosen rows, and their difference from the input. -/
abbrev E (n : Fin 4096) (k : Fin 8192) : EReal := if k = pick (rows m c) (book m c) n then 1 else 0
abbrev Q (n : Fin 4096) (d : Fin 256) : EReal := ∑ k : Fin 8192, E m c n k * book m c (ix2 k d)
abbrev err (n : Fin 4096) (d : Fin 256) : EReal := Q m c n d - rows m c (ix2 n d)

theorem encAt_at (t : Fin cfg0.N) (r : Fin 256) (k : Fin 8192) : encAt m c t (ix2 r k) = E m c (rowN t.val r) k := by
  refine (encB_at _ _ _ _ (iblk3_at m c t) r k).trans ?_
  have hd : dstB (iblk m c 0 t) (iblk m c 1 t) (iblk m c 2 t) r = fun j => dst (rows m c) (book m c) (rowN t.val r) j := by
    funext j
    unfold dstB dst
    rw [two_sum, iblk2_at]
    simp only [iblk0_at, iblk1_at]
  rw [hd]

theorem qstAt_at (t : Fin cfg0.N) (r d : Fin 256) :
    qstAt m c t (ix2 r d) = rows m c (ix2 (rowN t.val r) d) + err m c (rowN t.val r) d := by
  refine (qstB_at _ _ _ _ r d).trans ?_
  rw [iblk0_at]
  refine congrArg (fun z => _ + (z - _)) (Finset.sum_congr rfl fun k _ => ?_)
  rw [iblk1_at]
  exact congrArg (· * _) (encAt_at m c t r k)

theorem acc_step (t : Fin cfg0.N) (s : Vec Ideal S1x1 .f32) :
    accB (iblk m c 0 t) (iblk m c 1 t) (iblk m c 2 t) (iblk m c 3 t) s (ix2 0 0)
      = s (ix2 0 0) + ∑ r : Fin 256, ∑ d : Fin 256, err m c (rowN t.val r) d * err m c (rowN t.val r) d := by
  refine (accB_at _ _ _ _ s).trans (congrArg (_ + ·) (Finset.sum_congr rfl fun r _ => Finset.sum_congr rfl fun d _ => ?_))
  have e : ∑ k : Fin 8192, encB (iblk m c 0 t) (iblk m c 1 t) (iblk m c 2 t) (iblk m c 3 t) (ix2 r k) * (iblk m c 1 t : Vec Ideal S8192x256 .f32) (ix2 k d)
      = Q m c (rowN t.val r) d := Finset.sum_congr rfl fun k _ => by
    rw [iblk1_at]
    exact congrArg (· * _) (encAt_at m c t r k)
  rw [e, iblk0_at]

theorem cnt_step (t : Fin cfg0.N) (s : Vec Ideal S8x8192 .f32) (a : Fin 8) (k : Fin 8192) :
    cntB (iblk m c 0 t) (iblk m c 1 t) (iblk m c 2 t) (iblk m c 3 t) s (ix2 a k)
      = s (ix2 a k) + ∑ x : Fin 32, E m c (rowN t.val (eight x a)) k :=
  (cntB_at _ _ _ _ s a k).trans (congrArg (_ + ·) (Finset.sum_congr rfl fun x _ => encAt_at m c t (eight x a) k))

theorem accN_at : ∀ (n : ℕ) (h : n < cfg0.N), accN m c n h (ix2 0 0)
    = ∑ i ∈ Finset.range (n + 1), ∑ r : Fin 256, ∑ d : Fin 256, err m c (rowN i r) d * err m c (rowN i r) d
  | 0, h => by
    rw [accN, acc_step, Finset.sum_range_one]
    have e : k0_pay7 (F := Ideal) (ix2 0 0) = 0 := by pointwise [k0_pay7]
    rw [e, zero_add]
  | n + 1, h => by
    rw [accN, acc_step, accN_at n, Finset.sum_range_succ _ (n + 1)]

theorem cntN_at (a : Fin 8) (k : Fin 8192) : ∀ (n : ℕ) (h : n < cfg0.N), cntN m c n h (ix2 a k)
    = ∑ i ∈ Finset.range (n + 1), ∑ x : Fin 32, E m c (rowN i (eight x a)) k
  | 0, h => by
    rw [cntN, cnt_step, Finset.sum_range_one]
    have e : k0_pay8 (F := Ideal) (ix2 a k) = 0 := by pointwise [k0_pay8]
    rw [e, zero_add]
  | n + 1, h => by
    rw [cntN, cnt_step, cntN_at a k n, Finset.sum_range_succ _ (n + 1)]

/-- The sum of squared errors over all rows. -/
theorem acc_total : accN m c 15 h15 (ix2 0 0) = ∑ n : Fin 4096, ∑ d : Fin 256, err m c n d * err m c n d :=
  (accN_at m c 15 h15).trans (sum_rows fun n => ∑ d : Fin 256, err m c n d * err m c n d)

/-- Each column's count over all rows. -/
theorem cnt_total (k : Fin 8192) : ∑ a : Fin 8, cntN m c 15 h15 (ix2 a k) = ∑ n : Fin 4096, E m c n k := by
  rw [← sum_eights fun n => E m c n k]
  exact Finset.sum_congr rfl fun a _ => cntN_at m c a k 15 h15

theorem rowN_div (n : Fin 4096) : rowN (n.val / 256) ⟨n.val % 256, Nat.mod_lt _ (by decide)⟩ = n := Fin.ext (by
  have := n.isLt
  show (n.val / 256 * 256 + n.val % 256) % 4096 = n.val
  omega)

theorem arr4_at (n : Fin 4096) (k : Fin 8192) : arr4 m c (ix2 n k) = E m c n k := by
  have e : loc4 (ix2 n k) = ix2 ⟨n.val % 256, Nat.mod_lt _ (by decide)⟩ k := funext fun a => by
    match a with
    | ⟨0, _⟩ => rfl
    | ⟨1, _⟩ => rfl
  show encAt m c (pt4 (ix2 n k)) (loc4 (ix2 n k)) = _
  rw [e, encAt_at]
  exact congrArg (fun j => E m c j k) (rowN_div n)

theorem arr5_at (n : Fin 4096) (d : Fin 256) : arr5 m c (ix2 n d) = rows m c (ix2 n d) + err m c n d := by
  have e : loc5 (ix2 n d) = ix2 ⟨n.val % 256, Nat.mod_lt _ (by decide)⟩ d := funext fun a => by
    match a with
    | ⟨0, _⟩ => rfl
    | ⟨1, _⟩ => rfl
  show qstAt m c (pt5 (ix2 n d)) (loc5 (ix2 n d)) = _
  rw [e, qstAt_at]
  exact congrArg (fun j => rows m c (ix2 j d) + err m c j d) (rowN_div n)

end Cert.KernelIdeal.Val

end
-- ==== Proof.Equal.lean ====
/- The kernel's four results are the reference's, on extended reals: the loss, the straight-through value, the perplexity and the
   one-hot matrix. The reference's one-hot matrix is a variable `e` known only at its indices. -/
module

public import proofs.«01_k».proof.Proof.KVal

@[expose] public section

set_option maxRecDepth 16384

noncomputable section

/-! ## The reference's last steps read at an index -/

namespace Cert.ReferenceIdeal.Val

open Cert.ReferenceIdeal Cert.ReferenceIdeal.Gen Idealize.ShloMosaic

/-- A place of the input's shape is a row and a column. -/
abbrev flat : S4096x4x4x4x4.Idx ≃ S4096x256.Idx := Shape.reshapeEquiv shapeCasts_S4096x256_S4096x4x4x4x4

theorem quant_at (e : Vec Ideal S4096x8192 .f32) (w : Vec Ideal S8192x256 .f32) (i : S4096x4x4x4x4.Idx) (n : Fin 4096) (d : Fin 256)
    (h : flat i = ix2 n d) : quant e w i = ∑ k : Fin 8192, e (ix2 n k) * w (ix2 k d) := by
  show Host.dotGeneral (F := Ideal) (φ₁ := .f32) (φ₂ := .f32) dot_S4096x8192_S8192x256_S4096x256_1_0_0_1_n_n none e w (flat i) = _
  rw [h]
  pointwise

theorem sq_at (v : Vec Ideal S4096x4x4x4x4 .f32) :
    Host.reduceAdd (F := Ideal) (mulf (F := Ideal) (φ := .f32) v v) (constant S_ .f32 0x00000000#32) reducesTo_S4096x4x4x4x4_S_d0_1_2_3_4 h_S_ ix0
      = ∑ i : S4096x4x4x4x4.Idx, v i * v i := by
  refine (show _ = Ideal.hostReduceAdd reducesTo_S4096x4x4x4x4_S_d0_1_2_3_4 (fun i => v i * v i)
    ((constant (F := Ideal) S_ .f32 0x00000000#32) (Shape.Idx.first h_S_)) ix0 from rfl).trans ?_
  rw [Ideal.hostReduceAdd_total _ fun b => b.elim0]
  rw [show (constant (F := Ideal) S_ .f32 0x00000000#32) (Shape.Idx.first h_S_) = 0 from Ideal.ofBits_zero_f32, zero_add]

theorem loss_at (q x : Vec Ideal S4096x4x4x4x4 .f32) : loss q x ix0
    = Ideal.div (∑ i : S4096x4x4x4x4.Idx, (q i - x i) * (q i - x i)) (Ideal.ofBits .f32 0x49800000#32)
      + Ideal.ofBits .f32 0x3E800000#32 * Ideal.div (∑ i : S4096x4x4x4x4.Idx, (q i - x i) * (q i - x i)) (Ideal.ofBits .f32 0x49800000#32) := by
  have h : mse q x ix0 = Ideal.div (∑ i : S4096x4x4x4x4.Idx, (q i - x i) * (q i - x i)) (Ideal.ofBits .f32 0x49800000#32) := by
    rw [show (∑ i : S4096x4x4x4x4.Idx, (q i - x i) * (q i - x i)) = _ from (sq_at (subf (F := Ideal) (φ := .f32) q x)).symm]
    rfl
  rw [← h]
  rfl

theorem perplexity_at (e : Vec Ideal S4096x8192 .f32) : perplexity e ix0
    = Ideal.exp (-∑ k : Fin 8192, Ideal.div (∑ n : Fin 4096, e (ix2 n k)) (Ideal.ofBits .f32 0x45800000#32)
        * Ideal.log (Ideal.div (∑ n : Fin 4096, e (ix2 n k)) (Ideal.ofBits .f32 0x45800000#32) + Ideal.ofBits .f32 0x2EDBE6FF#32)) := by
  pointwise [perplexity, share]

end Cert.ReferenceIdeal.Val

namespace Cert.KernelIdeal.Val

open Cert.KernelIdeal Cert.KernelIdeal.Gen Idealize.ShloMosaic Idealize.ShloMosaic.TcCoe Idealize.SL.Sem
open Cert.ReferenceIdeal.Val (quant quant_at loss loss_at through perplexity perplexity_at flat)

/-! ## The kernel's last steps likewise -/

theorem pay5_at (s : Vec Ideal S1x1 .f32) : shapeCast S_ (k0_pay5 s) shapeCasts_S1x1_S_ ix0
    = Ideal.div (s (ix2 0 0)) (Ideal.ofBits .f32 0x49800000#32)
      + Ideal.ofBits .f32 0x3E800000#32 * Ideal.div (s (ix2 0 0)) (Ideal.ofBits .f32 0x49800000#32) := by
  pointwise [k0_pay5]

theorem pay6_at (s : Vec Ideal S8x8192 .f32) (f : Fin 8192 → EReal) (h : ∀ k, ∑ a : Fin 8, s (ix2 a k) = f k) : shapeCast S_ (k0_pay6 s) shapeCasts_S1x1_S_ ix0
    = Ideal.exp (-∑ k : Fin 8192, Ideal.div (f k) (Ideal.ofBits .f32 0x45800000#32)
        * Ideal.log (Ideal.div (f k) (Ideal.ofBits .f32 0x45800000#32) + Ideal.ofBits .f32 0x2EDBE6FF#32)) := by
  pointwise [k0_pay6]
  simp only [h, zero_sub]

/-! ## The results -/

variable (m : (b : Loc nD τ sig) → Buf (Elt Ideal) b) (c : Dev nD)

/-- The input as launched. -/
abbrev input : Vec Ideal S4096x4x4x4x4 .f32 := m ((c : Thread nD τ).loc main_arg0)

theorem input_at (i : S4096x4x4x4x4.Idx) (n : Fin 4096) (d : Fin 256) (h : flat i = ix2 n d) : input m c i = rows m c (ix2 n d) := by
  rw [← h]
  exact (congrFun (shapeCast_shapeCast (input m c) shapeCasts_S4096x4x4x4x4_S4096x256 shapeCasts_S4096x256_S4096x4x4x4x4) i).symm

theorem idx0_eq (j : S_.Idx) : j = ix0 := funext fun a => a.elim0

variable (e : Vec Ideal S4096x8192 .f32) (he : ∀ (n : Fin 4096) (k : Fin 8192), e (ix2 n k) = E m c n k)

include he

theorem enc_eq : arr4 m c = e := funext fun i => by
  obtain ⟨n, k, rfl⟩ : ∃ (n : Fin 4096) (k : Fin 8192), i = ix2 n k := ⟨i 0, i 1, eq_ix2 i⟩
  rw [arr4_at, he]

theorem err_at (i : S4096x4x4x4x4.Idx) (n : Fin 4096) (d : Fin 256) (h : flat i = ix2 n d) :
    quant e (book m c) i - input m c i = err m c n d := by
  rw [input_at m c i n d h, quant_at e (book m c) i n d h]
  simp only [he]

theorem through_eq : shapeCast S4096x4x4x4x4 (arr5 m c) shapeCasts_S4096x256_S4096x4x4x4x4 = through (quant e (book m c)) (input m c) :=
  funext fun i => by
    obtain ⟨n, d, h⟩ : ∃ (n : Fin 4096) (d : Fin 256), flat i = ix2 n d := ⟨flat i 0, flat i 1, eq_ix2 _⟩
    have hr : through (quant e (book m c)) (input m c) i = input m c i + (quant e (book m c) i - input m c i) := rfl
    have hk : shapeCast S4096x4x4x4x4 (arr5 m c) shapeCasts_S4096x256_S4096x4x4x4x4 i = arr5 m c (flat i) := rfl
    rw [hr, hk, err_at m c e he i n d h, input_at m c i n d h, h, arr5_at]

theorem sq_total : ∑ i : S4096x4x4x4x4.Idx, (quant e (book m c) i - input m c i) * (quant e (book m c) i - input m c i)
    = ∑ n : Fin 4096, ∑ d : Fin 256, err m c n d * err m c n d := by
  have h : ∀ i : S4096x4x4x4x4.Idx, (quant e (book m c) i - input m c i) * (quant e (book m c) i - input m c i)
      = (fun p : S4096x256.Idx => err m c (p 0) (p 1) * err m c (p 0) (p 1)) (flat i) := fun i => by
    rw [err_at m c e he i (flat i 0) (flat i 1) (eq_ix2 _)]
  rw [Finset.sum_congr rfl fun i _ => h i, Equiv.sum_comp flat fun p : S4096x256.Idx => err m c (p 0) (p 1) * err m c (p 0) (p 1)]
  exact sum_idx2 _

theorem loss_eq : shapeCast S_ (arr6 m c) shapeCasts_S1x1_S_ = loss (quant e (book m c)) (input m c) := funext fun j => by
  rw [idx0_eq j, loss_at, sq_total m c e he, ← acc_total]
  exact pay5_at (accN m c 15 h15)

theorem perp_eq : shapeCast S_ (arr7 m c) shapeCasts_S1x1_S_ = perplexity e := funext fun j => by
  rw [idx0_eq j, perplexity_at]
  refine (pay6_at (cntN m c 15 h15) _ (cnt_total m c)).trans ?_
  simp only [he]

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KRun
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore. -/
theorem referenceFrame : Cert.quiescent_ReferenceIdeal (hReferenceIdeal := Cert.ReferenceIdeal.Gen.facts) := fun m ρ _ =>
  (θ_run _ _ _).mono (fun r h => ⟨fun c => ⟨(h c).2.2.2.2.1, (h c).2.2.2.2.2⟩, sem_eq_zero_of_no_sems (by decide) r.2⟩)
    (Cert.ReferenceIdeal.Val.run m ρ)

open Cert.ReferenceIdeal.Val in
/-- The kernel's four results are the reference's. -/
theorem valueClaim : Cert.algebraic_KernelIdeal_ReferenceIdeal (hKernelIdeal := Cert.KernelIdeal.Gen.facts) (hReferenceIdeal := Cert.ReferenceIdeal.Gen.facts) := by
  intro m ρ m' ρ' _ hargs
  let e := fun c => resEnc (Cert.KernelIdeal.Val.input m c) (Cert.KernelIdeal.Val.book m c)
  have he : ∀ c n k, e c (ix2 n k) = Cert.KernelIdeal.Val.E m c n k := fun c n k =>
    resEnc_at (Cert.KernelIdeal.Val.input m c) (Cert.KernelIdeal.Val.book m c) n k
  refine ⟨fun c => loss (quant (e c) (Cert.KernelIdeal.Val.book m c)) (Cert.KernelIdeal.Val.input m c),
    fun c => through (quant (e c) (Cert.KernelIdeal.Val.book m c)) (Cert.KernelIdeal.Val.input m c),
    fun c => perplexity (e c), fun c => e c, ?_, ?_⟩
  · exact (θ_run _ _ _).mono (fun r h c => ⟨(h c).1.trans (Cert.KernelIdeal.Val.loss_eq m c (e c) (he c)),
      (h c).2.1.trans (Cert.KernelIdeal.Val.through_eq m c (e c) (he c)),
      (h c).2.2.1.trans (Cert.KernelIdeal.Val.perp_eq m c (e c) (he c)),
      (h c).2.2.2.1.trans (Cert.KernelIdeal.Val.enc_eq m c (e c) (he c)), (h c).2.2.2.2⟩) (Cert.KernelIdeal.Val.run m ρ)
  · refine (θ_run _ _ _).mono (fun r h c => ?_) (Cert.ReferenceIdeal.Val.run m' ρ')
    obtain ⟨h0, h1⟩ := hargs c
    obtain ⟨hl, ht, hp, he, ha⟩ := h c
    rw [h0, h1] at hl ht hp he
    exact ⟨hl, ht, hp, he, ha⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, referenceFrame, trivial, valueClaim⟩

end Cert.Proof

end
